-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S1x1024x1024 : Shape := ⟨3, ![1, 1024, 1024]⟩
abbrev S4x1024x1024 : Shape := ⟨3, ![4, 1024, 1024]⟩
abbrev S2x1024x1024 : Shape := ⟨3, ![2, 1024, 1024]⟩
abbrev S4x8x128 : Shape := ⟨3, ![4, 8, 128]⟩
abbrev S3 : Shape := ⟨1, ![3]⟩
abbrev S_ : Shape := ⟨0, ![]⟩
abbrev S4 : Shape := ⟨1, ![4]⟩
abbrev S1024x1024 : Shape := ⟨2, ![1024, 1024]⟩
abbrev S1 : Shape := ⟨1, ![1]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x2048, .f32⟩
  | .local _ .vmem, ⟨1, _⟩ => ⟨S1x1024x1024, .f32⟩
  | .local _ .vmem, ⟨2, _⟩ => ⟨S4x1024x1024, .f32⟩
  | .local _ .vmem, ⟨3, _⟩ => ⟨S4x1024x1024, .f32⟩
  | .local _ .vmem, ⟨4, _⟩ => ⟨S4x1024x1024, .i8⟩
  | .local _ .vmem, ⟨5, _⟩ => ⟨S4x1024x1024, .i8⟩
  | .local _ .vmem, ⟨6, _⟩ => ⟨S2x1024x1024, .f32⟩
  | .local _ .vmem, ⟨7, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v30 : BitVec 32 := Scalar.muli v2 c1024_i32
  let c0_i32_22 : BitVec 32 := 0#32
  ![v30.toNat, 0]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_38 : BitVec 32 := 1#32
  let v45 : BitVec 32 := Scalar.muli v13 c1_i32_38
  let v46 : BitVec 32 := Scalar.addi c0_i32_39 v45
  v46.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v63 : BitVec 32 := Scalar.muli v24 c1_i32_56
  let v64 : BitVec 32 := Scalar.addi c0_i32_57 v63
  v64.toNat
def k0_off2 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_62 : BitVec 32 := 1#32
  let v73 : BitVec 32 := Scalar.subi v2 c1_i32_62
  let v74 : BitVec 32 := Scalar.subi v73 c0_i32_63
  let c4_i32_64 : BitVec 32 := 4#32
  let c0_i32_65 : BitVec 32 := 0#32
  let v75 : BitVec 1 := Scalar.cmpi .eq c4_i32_64 c0_i32_65
  let c1_i32_66 : BitVec 32 := 1#32
  let v76 : BitVec 32 := Scalar.select v75 c1_i32_66 c4_i32_64
  let v77 : BitVec 32 := Scalar.remsi v74 v76
  let c0_i32_68 : BitVec 32 := 0#32
  let v79 : BitVec 1 := Scalar.cmpi .slt v77 c0_i32_68
  let c0_i32_69 : BitVec 32 := 0#32
  let v80 : BitVec 1 := Scalar.cmpi .slt v76 c0_i32_69
  let v81 : BitVec 1 := Scalar.xori v79 v80
  let c0_i32_67 : BitVec 32 := 0#32
  let v78 : BitVec 1 := Scalar.cmpi .ne v77 c0_i32_67
  let v82 : BitVec 1 := Scalar.andi v81 v78
  let v83 : BitVec 32 := Scalar.addi v77 v76
  let v84 : BitVec 32 := Scalar.select v82 v83 v77
  let c1024_i32_78 : BitVec 32 := 1024#32
  let v97 : BitVec 32 := Scalar.muli v84 c1024_i32_78
  let c0_i32_82 : BitVec 32 := 0#32
  ![v97.toNat, 0]
def k0_off3 (d0 : Dev nD) (c0_i32_71 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v85 : BitVec 32 := Scalar.addi v2 c1_i32_70
  let v86 : BitVec 32 := Scalar.addi v85 c0_i32_71
  let c4_i32_72 : BitVec 32 := 4#32
  let c0_i32_73 : BitVec 32 := 0#32
  let v87 : BitVec 1 := Scalar.cmpi .eq c4_i32_72 c0_i32_73
  let c1_i32_74 : BitVec 32 := 1#32
  let v88 : BitVec 32 := Scalar.select v87 c1_i32_74 c4_i32_72
  let v89 : BitVec 32 := Scalar.remsi v86 v88
  let c0_i32_76 : BitVec 32 := 0#32
  let v91 : BitVec 1 := Scalar.cmpi .slt v89 c0_i32_76
  let c0_i32_77 : BitVec 32 := 0#32
  let v92 : BitVec 1 := Scalar.cmpi .slt v88 c0_i32_77
  let v93 : BitVec 1 := Scalar.xori v91 v92
  let c0_i32_75 : BitVec 32 := 0#32
  let v90 : BitVec 1 := Scalar.cmpi .ne v89 c0_i32_75
  let v94 : BitVec 1 := Scalar.andi v93 v90
  let v95 : BitVec 32 := Scalar.addi v89 v88
  let v96 : BitVec 32 := Scalar.select v94 v95 v89
  let c1024_i32_96 : BitVec 32 := 1024#32
  let v112 : BitVec 32 := Scalar.muli v96 c1024_i32_96
  let c0_i32_100 : BitVec 32 := 0#32
  ![v112.toNat, 0]
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_145 : BitVec 32 := 1#32
  let v149 : BitVec 32 := Scalar.muli v13 c1_i32_145
  let v150 : BitVec 32 := Scalar.addi c0_i32_146 v149
  v150.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v181 : BitVec 32 := Scalar.muli v24 c1_i32_183
  let v182 : BitVec 32 := Scalar.addi c0_i32_184 v181
  v182.toNat
def k0_dev7 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_254 : BitVec 32 := 1#32
  let v248 : BitVec 32 := Scalar.muli v13 c1_i32_254
  let v249 : BitVec 32 := Scalar.addi c0_i32_255 v248
  v249.toNat
def k0_dev8 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_292 : BitVec 32 := 1#32
  let v280 : BitVec 32 := Scalar.muli v24 c1_i32_292
  let v281 : BitVec 32 := Scalar.addi c0_i32_293 v280
  v281.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v406 : Index := Scalar.indexCast v2
  let c0_415 : Index := 0#32
  let c0_416 : Index := 0#32
  ![v406.toNat, 0, 0]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_428 : BitVec 32 := 0#32
  let c0_i32_429 : BitVec 32 := 0#32
  ![v2.toNat, 0, 0]
def k0_dev9 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_417 : BitVec 32 := 1#32
  let v410 : BitVec 32 := Scalar.addi v2 c1_i32_417
  let c4_i32_418 : BitVec 32 := 4#32
  let c0_i32_419 : BitVec 32 := 0#32
  let v411 : BitVec 1 := Scalar.cmpi .eq c4_i32_418 c0_i32_419
  let c1_i32_420 : BitVec 32 := 1#32
  let v412 : BitVec 32 := Scalar.select v411 c1_i32_420 c4_i32_418
  let v413 : BitVec 32 := Scalar.remsi v410 v412
  let c0_i32_422 : BitVec 32 := 0#32
  let v415 : BitVec 1 := Scalar.cmpi .slt v413 c0_i32_422
  let c0_i32_423 : BitVec 32 := 0#32
  let v416 : BitVec 1 := Scalar.cmpi .slt v412 c0_i32_423
  let v417 : BitVec 1 := Scalar.xori v415 v416
  let c0_i32_421 : BitVec 32 := 0#32
  let v414 : BitVec 1 := Scalar.cmpi .ne v413 c0_i32_421
  let v418 : BitVec 1 := Scalar.andi v417 v414
  let v419 : BitVec 32 := Scalar.addi v413 v412
  let v420 : BitVec 32 := Scalar.select v418 v419 v413
  let c1_i32_426 : BitVec 32 := 1#32
  let v421 : BitVec 32 := Scalar.muli v420 c1_i32_426
  let v422 : BitVec 32 := Scalar.addi c0_i32_427 v421
  v422.toNat
def k0_dev10 (d0 : Dev nD) : Nat :=
  let c0_i32_442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_432 : BitVec 32 := 2#32
  let v429 : BitVec 32 := Scalar.addi v2 c2_i32_432
  let c4_i32_433 : BitVec 32 := 4#32
  let c0_i32_434 : BitVec 32 := 0#32
  let v430 : BitVec 1 := Scalar.cmpi .eq c4_i32_433 c0_i32_434
  let c1_i32_435 : BitVec 32 := 1#32
  let v431 : BitVec 32 := Scalar.select v430 c1_i32_435 c4_i32_433
  let v432 : BitVec 32 := Scalar.remsi v429 v431
  let c0_i32_437 : BitVec 32 := 0#32
  let v434 : BitVec 1 := Scalar.cmpi .slt v432 c0_i32_437
  let c0_i32_438 : BitVec 32 := 0#32
  let v435 : BitVec 1 := Scalar.cmpi .slt v431 c0_i32_438
  let v436 : BitVec 1 := Scalar.xori v434 v435
  let c0_i32_436 : BitVec 32 := 0#32
  let v433 : BitVec 1 := Scalar.cmpi .ne v432 c0_i32_436
  let v437 : BitVec 1 := Scalar.andi v436 v433
  let v438 : BitVec 32 := Scalar.addi v432 v431
  let v439 : BitVec 32 := Scalar.select v437 v438 v432
  let c1_i32_441 : BitVec 32 := 1#32
  let v440 : BitVec 32 := Scalar.muli v439 c1_i32_441
  let v441 : BitVec 32 := Scalar.addi c0_i32_442 v440
  v441.toNat
def k0_dev11 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_447 : BitVec 32 := 3#32
  let v448 : BitVec 32 := Scalar.addi v2 c3_i32_447
  let c4_i32_448 : BitVec 32 := 4#32
  let c0_i32_449 : BitVec 32 := 0#32
  let v449 : BitVec 1 := Scalar.cmpi .eq c4_i32_448 c0_i32_449
  let c1_i32_450 : BitVec 32 := 1#32
  let v450 : BitVec 32 := Scalar.select v449 c1_i32_450 c4_i32_448
  let v451 : BitVec 32 := Scalar.remsi v448 v450
  let c0_i32_452 : BitVec 32 := 0#32
  let v453 : BitVec 1 := Scalar.cmpi .slt v451 c0_i32_452
  let c0_i32_453 : BitVec 32 := 0#32
  let v454 : BitVec 1 := Scalar.cmpi .slt v450 c0_i32_453
  let v455 : BitVec 1 := Scalar.xori v453 v454
  let c0_i32_451 : BitVec 32 := 0#32
  let v452 : BitVec 1 := Scalar.cmpi .ne v451 c0_i32_451
  let v456 : BitVec 1 := Scalar.andi v455 v452
  let v457 : BitVec 32 := Scalar.addi v451 v450
  let v458 : BitVec 32 := Scalar.select v456 v457 v451
  let c1_i32_456 : BitVec 32 := 1#32
  let v459 : BitVec 32 := Scalar.muli v458 c1_i32_456
  let v460 : BitVec 32 := Scalar.addi c0_i32_457 v459
  v460.toNat
def k0_dev12 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_524 : BitVec 32 := 1#32
  let v516 : BitVec 32 := Scalar.muli v13 c1_i32_524
  let v517 : BitVec 32 := Scalar.addi c0_i32_525 v516
  v517.toNat
def k0_dev13 (d0 : Dev nD) : Nat :=
  let c0_i32_543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_542 : BitVec 32 := 1#32
  let v539 : BitVec 32 := Scalar.muli v24 c1_i32_542
  let v540 : BitVec 32 := Scalar.addi c0_i32_543 v539
  v540.toNat
def k0_off6 (d0 : Dev nD) (c0_i32_555 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_554 : BitVec 32 := 1#32
  let v557 : BitVec 32 := Scalar.addi v2 c1_i32_554
  let v558 : BitVec 32 := Scalar.subi v557 c0_i32_555
  let c4_i32_556 : BitVec 32 := 4#32
  let c0_i32_557 : BitVec 32 := 0#32
  let v559 : BitVec 1 := Scalar.cmpi .eq c4_i32_556 c0_i32_557
  let c1_i32_558 : BitVec 32 := 1#32
  let v560 : BitVec 32 := Scalar.select v559 c1_i32_558 c4_i32_556
  let v561 : BitVec 32 := Scalar.remsi v558 v560
  let c0_i32_560 : BitVec 32 := 0#32
  let v563 : BitVec 1 := Scalar.cmpi .slt v561 c0_i32_560
  let c0_i32_561 : BitVec 32 := 0#32
  let v564 : BitVec 1 := Scalar.cmpi .slt v560 c0_i32_561
  let v565 : BitVec 1 := Scalar.xori v563 v564
  let c0_i32_559 : BitVec 32 := 0#32
  let v562 : BitVec 1 := Scalar.cmpi .ne v561 c0_i32_559
  let v566 : BitVec 1 := Scalar.andi v565 v562
  let v567 : BitVec 32 := Scalar.addi v561 v560
  let v568 : BitVec 32 := Scalar.select v566 v567 v561
  let c1024_i32_562 : BitVec 32 := 1024#32
  let v569 : BitVec 32 := Scalar.muli v568 c1024_i32_562
  let c0_i32_565 : BitVec 32 := 0#32
  ![v569.toNat, 0]
def k0_off7 (d0 : Dev nD) (c0_i32_575 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_574 : BitVec 32 := 1#32
  let v583 : BitVec 32 := Scalar.subi v2 c1_i32_574
  let v584 : BitVec 32 := Scalar.addi v583 c0_i32_575
  let c4_i32_576 : BitVec 32 := 4#32
  let c0_i32_577 : BitVec 32 := 0#32
  let v585 : BitVec 1 := Scalar.cmpi .eq c4_i32_576 c0_i32_577
  let c1_i32_578 : BitVec 32 := 1#32
  let v586 : BitVec 32 := Scalar.select v585 c1_i32_578 c4_i32_576
  let v587 : BitVec 32 := Scalar.remsi v584 v586
  let c0_i32_580 : BitVec 32 := 0#32
  let v589 : BitVec 1 := Scalar.cmpi .slt v587 c0_i32_580
  let c0_i32_581 : BitVec 32 := 0#32
  let v590 : BitVec 1 := Scalar.cmpi .slt v586 c0_i32_581
  let v591 : BitVec 1 := Scalar.xori v589 v590
  let c0_i32_579 : BitVec 32 := 0#32
  let v588 : BitVec 1 := Scalar.cmpi .ne v587 c0_i32_579
  let v592 : BitVec 1 := Scalar.andi v591 v588
  let v593 : BitVec 32 := Scalar.addi v587 v586
  let v594 : BitVec 32 := Scalar.select v592 v593 v587
  let c1024_i32_582 : BitVec 32 := 1024#32
  let v595 : BitVec 32 := Scalar.muli v594 c1024_i32_582
  let c1024_i32_585 : BitVec 32 := 1024#32
  ![v595.toNat, 1024]
def k0_dev14 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_611 : BitVec 32 := 1#32
  let v615 : BitVec 32 := Scalar.muli v13 c1_i32_611
  let v616 : BitVec 32 := Scalar.addi c0_i32_612 v615
  v616.toNat
def k0_dev15 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_640 : BitVec 32 := 1#32
  let v639 : BitVec 32 := Scalar.muli v24 c1_i32_640
  let v640 : BitVec 32 := Scalar.addi c0_i32_641 v639
  v640.toNat
def k0_dev16 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_709 : BitVec 32 := 1#32
  let v715 : BitVec 32 := Scalar.muli v13 c1_i32_709
  let v716 : BitVec 32 := Scalar.addi c0_i32_710 v715
  v716.toNat
def k0_dev17 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_738 : BitVec 32 := 1#32
  let v739 : BitVec 32 := Scalar.muli v24 c1_i32_738
  let v740 : BitVec 32 := Scalar.addi c0_i32_739 v739
  v740.toNat
def k0_dev18 (d0 : Dev nD) : Nat :=
  let c0_i32_904_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_903_r0 : BitVec 32 := 1#32
  let v922_r0 : BitVec 32 := Scalar.muli v24 c1_i32_903_r0
  let v923_r0 : BitVec 32 := Scalar.addi c0_i32_904_r0 v922_r0
  v923_r0.toNat
def k0_dev19 (d0 : Dev nD) : Nat :=
  let c0_i32_907_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_906_r0 : BitVec 32 := 1#32
  let v924_r0 : BitVec 32 := Scalar.muli v13 c1_i32_906_r0
  let v925_r0 : BitVec 32 := Scalar.addi c0_i32_907_r0 v924_r0
  v925_r0.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Slots.lean ====
/-
# Owning the pieces of a buffer

Rules, for any machine, for a core that holds rectangular pieces (slices) of its buffers with known contents:
loading a piece, overwriting it, copying it locally, and seeing a piece as the same elements with an axis of
extent one dropped.  Every rule is stated with `owns` (a share of a memref's elements, and what the memref reads),
so that contents are functions on the piece's own index type.
-/
module

public import Idealize.ShloMosaic.Lib.Memref
public import Idealize.ShloMosaic.Lib.MemrefSat
public import Idealize.ShloMosaic.Lib.Transfers
public import Idealize.ShloMosaic.Lib.Rounds
public import Idealize.ShloMosaic.Lib.Tactic

@[expose] public section

noncomputable section

namespace Cert.Slots

open Idealize.ShloMosaic
open Idealize.SL Idealize.SL.RA Idealize.SL.BI
open scoped Idealize.SL.BI
open Idealize.SL.BI.BIBase Idealize.SL.BI.Laws Idealize.SL.ProofMode Idealize.SL.Sem Transfers

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable (c : Thread nD τ) {sp sp' : Space} {sh sh' : Shape} {e : EltTy}

/-- Owning a memref with an axis of extent one dropped, at the contents read in the same order, is owning the memref. -/
theorem owns_squeeze (m : Memref sig c.2.kind sp sh e) (q : PosShare TreeShare) (s' : Shape) (h : sh.Squeezes s')
    (X : sh.Idx → Val e) :
    (owns c (m.squeeze s' h) q (fun j => X (Shape.reshapeEquiv h.numel_eq j)) : sProp 𝕄) = owns c m q X := by
  unfold owns
  have hset : (m.squeeze s' h).view.set = m.view.set := View.set_reshape _ _
  have hread (f : m.view.ty.Contents Val) :
      ((m.squeeze s' h).view.read Val f = fun j => X (Shape.reshapeEquiv h.numel_eq j)) = (m.view.read Val f = X) := by
    apply propext
    constructor
    · intro hf
      funext j
      have := congrFun hf ((Shape.reshapeEquiv h.numel_eq).symm j)
      simpa [View.read] using this
    · intro hf
      funext j
      exact congrFun hf (Shape.reshapeEquiv h.numel_eq j)
  rw [hset]
  refine congrArg _ (funext fun f => ?_)
  rw [hread f]

/-- A piece of an owned memref, and what gives the memref back from the piece. -/
theorem owns_take (m : Memref sig c.2.kind sp sh e) (q : PosShare TreeShare) (r : Rect sh) (hr : ∀ a, r.stride a = 1)
    (X : sh.Idx → Val e) :
    (owns c m q X : sProp 𝕄) ⊢ iprop(owns c (m.slice r hr) q (fun j => X (r.emb j))
      ∗ (owns c (m.slice r hr) q (fun j => X (r.emb j)) -∗ owns c m q X)) := by
  have hsub : (m.view.slice r).set ⊆ m.view.set := View.set_slice_subset _ _
  have hopen : (owns c m q X : sProp 𝕄) ⊢ iprop(∃ g, ⌜m.view.read Val g = X⌝ ∗ m.view.loc c ↦[m.view.set]{q} g) := .rfl
  have hclose (g : m.view.ty.Contents Val) : (m.view.loc c ↦[m.view.set]{q} g : sProp 𝕄) ⊢ owns c m q (m.view.read Val g) :=
    owns_intro c m q g
  iintro H
  ihave H' := hopen $$ H
  icases H' with ⟨%g, %hg, H⟩
  subst hg
  ihave H2 := (pointsTo_split_subset hsub).1 $$ H
  icases H2 with ⟨H1, H2⟩
  ihave H1' := (Entails.of_eq (owns_slice_read c m q r hr g).symm) $$ H1
  isplitl [H1']; · iexact H1'
  iintro H1
  iapply (hclose g)
  ihave H1' := (Entails.of_eq (owns_slice_read c m q r hr g)) $$ H1
  iapply (pointsTo_split_subset hsub).2
  isplitl [H1']; · iexact H1'
  iexact H2

section Steps

variable {Λ : Labels} {defs : Defs nD τ sig Val Λ} (𝒱 : Variants) (bd : Option 𝒱.V)
variable {α : Type} {Q : α → sProp (MT nD τ sig Ix Val Name U Lvl)}

/-- Loading an owned piece reads its contents. -/
theorem wp_load_piece {cs : CoreSpace} {m : Memref sig c.2.kind cs sh e} {r : Rect sh} (hr : ∀ a, r.stride a = 1)
    {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
          -∗ wp frame (wpE defs 𝒱 c bd) Set.univ (.op (.load m r.toLoadRect hl) k) Q) := by
  have hopen : (owns c (m.slice r hr) q X : sProp 𝕄)
      ⊢ iprop(∃ g, ⌜(m.slice r hr).view.read Val g = X⌝ ∗ (m.slice r hr).view.loc c ↦[(m.slice r hr).view.set]{q} g) := .rfl
  iintro H Hk
  ihave H' := hopen $$ H
  icases H' with ⟨%g, %hg, H⟩
  subst hg
  iapply (wp_load_rect 𝒱 c bd Set.univ (m := m) (r := r) (S := (m.slice r hr).view.set) (f := g) subset_rfl) $$ H
  iintro H
  iapply Hk
  iapply (owns_intro c (m.slice r hr) q g)
  iexact H

/-- Loading a rectangle of an owned memref reads that part of its contents. -/
theorem wp_load_part {cs : CoreSpace} {m : Memref sig c.2.kind cs sh e} {r : Rect sh}
    {hl : m.view.LoadsAt r.toLoadRect}
    {k : (r.shape.Idx → Val e) → Prog (TpuEff nD τ sig Val Λ c.2) α} {q : PosShare TreeShare} {X : sh.Idx → Val e} :
    (owns c m q X : sProp 𝕄)
      ⊢ iprop((owns c m q X -∗ wp frame (wpE defs 𝒱 c bd) Set.univ (k fun j => X (r.emb j)) Q)
          -∗ wp frame (wpE defs 𝒱 c bd) Set.univ (.op (.load m r.toLoadRect hl) k) Q) := by
  have hopen : (owns c m q X : sProp 𝕄) ⊢ iprop(∃ g, ⌜m.view.read Val g = X⌝ ∗ m.view.loc c ↦[m.view.set]{q} g) := .rfl
  iintro H Hk
  ihave H' := hopen $$ H
  icases H' with ⟨%g, %hg, H⟩
  subst hg
  iapply (wp_load_rect 𝒱 c bd Set.univ (m := m) (r := r) (S := m.view.set) (f := g) (View.set_slice_subset _ _)) $$ H
  iintro H
  iapply Hk
  iapply (owns_intro c m q g)
  iexact H

/-- Storing over an owned piece leaves it at what was stored. -/
theorem wp_store_piece {cs : CoreSpace} {m : Memref sig c.2.kind cs sh e} {r : Rect sh} (hr : ∀ a, r.stride a = 1)
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
          -∗ wp frame (wpE defs 𝒱 c bd) Set.univ (.op (.store m r w Finset.univ hx hm) k) Q) := by
  have hopen : (owns c (m.slice r hr) fullShare X : sProp 𝕄)
      ⊢ iprop(∃ g, ⌜(m.slice r hr).view.read Val g = X⌝ ∗ (m.slice r hr).view.loc c ↦[(m.slice r hr).view.set]{fullShare} g) := .rfl
  have hread (g : (m.slice r hr).view.ty.Contents Val) :
      (m.slice r hr).view.read Val ((m.slice r hr).view.write Val g w Finset.univ) = w := View.read_write_univ _ _
  iintro H Hk
  ihave H' := hopen $$ H
  icases H' with ⟨%g, %hg, H⟩
  iapply (wp_store 𝒱 c bd Set.univ (m := m) (r := r) (Mk := Finset.univ) (S := (m.slice r hr).view.set) (f := g) subset_rfl) $$ H
  iintro H
  iapply Hk
  ihave H := (owns_intro c (m.slice r hr) fullShare ((m.slice r hr).view.write Val g w Finset.univ)) $$ H
  rw [hread g]
  iexact H

/-- A local copy of one owned piece over another, on a semaphore held at zero: the core goes on with the copy in
    flight, which delivers the destination at the source's contents and the source back. -/
theorem wp_copy_piece [Infinite Name] (EC : UEmb Counters (MT nD τ sig Ix Val Name U Lvl)) [EC.LandsIn (upEmb : UEmb _ 𝕄)]
    {src : Memref sig c.2.kind sp sh e} {dst : Memref sig c.2.kind sp' sh e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : sh.Idx → Val e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  have hopen (m : Memref sig c.2.kind sp sh e) (q : PosShare TreeShare) (X : sh.Idx → Val e) : (owns c m q X : sProp 𝕄)
      ⊢ iprop(∃ g, ⌜m.view.read Val g = X⌝ ∗ m.view.loc c ↦[m.view.set]{q} g) := .rfl
  have hopen' (m : Memref sig c.2.kind sp' sh e) (q : PosShare TreeShare) (X : sh.Idx → Val e) : (owns c m q X : sProp 𝕄)
      ⊢ iprop(∃ g, ⌜m.view.read Val g = X⌝ ∗ m.view.loc c ↦[m.view.set]{q} g) := .rfl
  iintro ⟨Hs, Hd, Hv⟩ Hk
  ihave H' := (hopen src q X) $$ Hs
  icases H' with ⟨%fs, %hfs, Hs⟩
  ihave H' := (hopen' dst fullShare Y) $$ Hd
  icases H' with ⟨%fd, %hfd, Hd⟩
  subst hfs
  iapply (wp_dmaLocal EC 𝒱 c bd (via := .same) (src := src) (dst := dst) (fs := fs) (fd := fd) (Sd := dst.view.set) ι N hN hN0 subset_rfl) $$ [Hs Hd Hv]
  · isplitl [Hs]; · iexact Hs
    isplitl [Hd] <;> iassumption
  iintro HF
  iapply Hk
  iapply (Flight_mono EC c ?_) $$ HF
  iintro ⟨Hd, Hs⟩
  isplitl [Hd]
  · ihave Hd := (owns_intro c dst fullShare (dst.view.write Val fd (src.view.read Val fs) Finset.univ)) $$ Hd
    rw [View.read_write_univ]
    iexact Hd
  · iapply (owns_intro c src q fs)
    iexact Hs

end Steps

end Cert.Slots

end
-- ==== Proof.KernelIdeal.Common.lean ====
/-
# The kernel's protocol

Four devices in a ring; every device runs the same body.  With `c` a device, `c + 1` its right and `c - 1 = c + 3` its
left neighbour (`sh c j` is `c + j` on the ring), the semaphores are used once each, in this order.

| semaphore            | waited on by | paid by                        | what the payment hands over                              |
|----------------------|--------------|--------------------------------|----------------------------------------------------------|
| barrier (two units)  | `c`          | `c + 1` and `c - 1`            | the buffers the payer receives into (empty slots, rows)  |
| `rs_recv_a[s]`       | `c`          | `c - 1`'s copy                 | slot `s + 1` of the right-going ring: the partial sum `ra s` of `c - 1` |
| `rs_recv_b[s]`       | `c`          | `c + 1`'s copy                 | slot `s + 1` of the left-going ring: the partial sum `rb s` of `c + 1`  |
| `rs_send_a/b[s]`     | `c`          | `c`'s own copy                 | the slot copied out of                                   |
| `ax_recv[j]`         | `c`          | `c - 1 - j`'s copy             | the row of maxima of `c - 1 - j`                         |
| `ax_send[j]`         | `c`          | `c`'s own copy                 | a share of `c`'s own row                                 |
| `ag_recv_a/b[s]`     | `c`          | `c - 1`'s / `c + 1`'s copy     | slot `s + 1` of the quantized rings                      |
| `ag_send_a/b[s]`     | `c`          | `c`'s own copy                 | half a share of the slot copied out of                   |
| exit (two units)     | `c`          | `c + 1` and `c - 1`            | nothing                                                  |

The copies inside a device (the blocks of `x` coming in, the blocks of the result going out) need no protocol.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Slots
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers
open Idealize.ShloMosaic.Pipeline (Dat Cfg Window BodyObligation cellOf)

variable {F : FTy → Type} [FloatOps F]

/-! ## The resource algebra: the pipeline library's copy, the ring's, and the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER (F := F)).LandsIn (upEmb : UEmb _ 𝕄) := by unfold ER; infer_instance

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `j` places to the right of `c`. -/
def sh (c : Dev nD) (j : ℕ) : Dev nD := ⟨(c.val + j) % 4, Nat.mod_lt _ (by decide)⟩

theorem sh_sh (c : Dev nD) (i j : ℕ) : sh (sh c i) j = sh c (i + j) := by
  apply Fin.ext; simp only [sh]; omega
theorem sh_four (c : Dev nD) : sh c 4 = c := by revert c; decide
theorem sh_five (c : Dev nD) : sh c 5 = sh c 1 := by revert c; decide
theorem sh_six (c : Dev nD) : sh c 6 = sh c 2 := by revert c; decide
theorem sh13 (c : Dev nD) : sh (sh c 1) 3 = c := by revert c; decide
theorem sh31 (c : Dev nD) : sh (sh c 3) 1 = c := by revert c; decide
theorem sh22 (c : Dev nD) : sh (sh c 2) 2 = c := by revert c; decide
theorem sh12 (c : Dev nD) : sh (sh c 1) 2 = sh c 3 := by revert c; decide
theorem sh11 (c : Dev nD) : sh (sh c 1) 1 = sh c 2 := by revert c; decide
theorem sh32 (c : Dev nD) : sh (sh c 3) 2 = sh c 1 := by revert c; decide
theorem sh33 (c : Dev nD) : sh (sh c 3) 3 = sh c 2 := by revert c; decide

/-- The devices the body names. -/
theorem dev1_eq (c : Dev nD) : (⟨k0_dev1 c, k0_dev1_lt c⟩ : Dev nD) = sh c 3 := by revert c; decide +kernel
theorem dev2_eq (c : Dev nD) : (⟨k0_dev2 c, k0_dev2_lt c⟩ : Dev nD) = sh c 1 := by revert c; decide +kernel
theorem dev3_eq (c : Dev nD) : (⟨k0_dev3 c, k0_dev3_lt c⟩ : Dev nD) = sh c 1 := by revert c; decide +kernel
theorem dev4_eq (c : Dev nD) : (⟨k0_dev4 c, k0_dev4_lt c⟩ : Dev nD) = sh c 3 := by revert c; decide +kernel
theorem dev5_eq (c : Dev nD) : (⟨k0_dev5 c, k0_dev5_lt c⟩ : Dev nD) = sh c 1 := by revert c; decide +kernel
theorem dev6_eq (c : Dev nD) : (⟨k0_dev6 c, k0_dev6_lt c⟩ : Dev nD) = sh c 3 := by revert c; decide +kernel
theorem dev7_eq (c : Dev nD) : (⟨k0_dev7 c, k0_dev7_lt c⟩ : Dev nD) = sh c 1 := by revert c; decide +kernel
theorem dev8_eq (c : Dev nD) : (⟨k0_dev8 c, k0_dev8_lt c⟩ : Dev nD) = sh c 3 := by revert c; decide +kernel
theorem dev9_eq (c : Dev nD) : (⟨k0_dev9 c, k0_dev9_lt c⟩ : Dev nD) = sh c 1 := by revert c; decide +kernel
theorem dev10_eq (c : Dev nD) : (⟨k0_dev10 c, k0_dev10_lt c⟩ : Dev nD) = sh c 2 := by revert c; decide +kernel
theorem dev11_eq (c : Dev nD) : (⟨k0_dev11 c, k0_dev11_lt c⟩ : Dev nD) = sh c 3 := by revert c; decide +kernel
theorem dev12_eq (c : Dev nD) : (⟨k0_dev12 c, k0_dev12_lt c⟩ : Dev nD) = sh c 1 := by revert c; decide +kernel
theorem dev13_eq (c : Dev nD) : (⟨k0_dev13 c, k0_dev13_lt c⟩ : Dev nD) = sh c 3 := by revert c; decide +kernel
theorem dev14_eq (c : Dev nD) : (⟨k0_dev14 c, k0_dev14_lt c⟩ : Dev nD) = sh c 1 := by revert c; decide +kernel
theorem dev15_eq (c : Dev nD) : (⟨k0_dev15 c, k0_dev15_lt c⟩ : Dev nD) = sh c 3 := by revert c; decide +kernel
theorem dev16_eq (c : Dev nD) : (⟨k0_dev16 c, k0_dev16_lt c⟩ : Dev nD) = sh c 1 := by revert c; decide +kernel
theorem dev17_eq (c : Dev nD) : (⟨k0_dev17 c, k0_dev17_lt c⟩ : Dev nD) = sh c 3 := by revert c; decide +kernel
theorem dev18_eq (c : Dev nD) : (⟨k0_dev18 c, k0_dev18_lt c⟩ : Dev nD) = sh c 3 := by revert c; decide +kernel
theorem dev19_eq (c : Dev nD) : (⟨k0_dev19 c, k0_dev19_lt c⟩ : Dev nD) = sh c 1 := by revert c; decide +kernel

/-- The offsets the body computes: rows of `x` and of the result, by device. -/
theorem off1_eq (c : Dev nD) : k0_off1 c = ![1024 * c.val, 0] := k0_off1_eq c
theorem off2_eq0 (c : Dev nD) : k0_off2 c 0#32 = ![1024 * (sh c 3).val, 0] := by revert c; decide +kernel
theorem off2_eq1 (c : Dev nD) : k0_off2 c 1#32 = ![1024 * (sh c 2).val, 0] := by revert c; decide +kernel
theorem off2_eq2 (c : Dev nD) : k0_off2 c 2#32 = ![1024 * (sh c 1).val, 0] := by revert c; decide +kernel
theorem off3_eq0 (c : Dev nD) : k0_off3 c 0#32 = ![1024 * (sh c 1).val, 0] := by revert c; decide +kernel
theorem off3_eq2 (c : Dev nD) : k0_off3 c 2#32 = ![1024 * (sh c 3).val, 0] := by revert c; decide +kernel
theorem off45_eq (c : Dev nD) : k0_off4 c = k0_off5 c := (k0_off4_eq c).trans (k0_off5_eq c).symm
theorem off6_eq (c : Dev nD) (s : Fin 4) : k0_off6 c (BitVec.ofNat 32 s.val) = ![1024 * (sh c (5 - s.val)).val, 0] := by
  revert c s; decide +kernel
theorem off7_eq (c : Dev nD) (s : Fin 4) : k0_off7 c (BitVec.ofNat 32 s.val) = ![1024 * (sh c (3 + s.val)).val, 1024] := by
  revert c s; decide +kernel

/-! ## The memrefs -/

abbrev R4_0 : Rect S4x1024x1024 := Rect.unit (s := S4x1024x1024) ![0, 0, 0] S1x1024x1024.size inb_S4x1024x1024_S1x1024x1024_0_0_0
abbrev R4_1 : Rect S4x1024x1024 := Rect.unit (s := S4x1024x1024) ![1, 0, 0] S1x1024x1024.size inb_S4x1024x1024_S1x1024x1024_1_0_0
abbrev R4_2 : Rect S4x1024x1024 := Rect.unit (s := S4x1024x1024) ![2, 0, 0] S1x1024x1024.size inb_S4x1024x1024_S1x1024x1024_2_0_0
abbrev R4_3 : Rect S4x1024x1024 := Rect.unit (s := S4x1024x1024) ![3, 0, 0] S1x1024x1024.size inb_S4x1024x1024_S1x1024x1024_3_0_0
abbrev R2_0 : Rect S2x1024x1024 := Rect.unit (s := S2x1024x1024) ![0, 0, 0] S1x1024x1024.size inb_S2x1024x1024_S1x1024x1024_0_0_0
abbrev R2_1 : Rect S2x1024x1024 := Rect.unit (s := S2x1024x1024) ![1, 0, 0] S1x1024x1024.size inb_S2x1024x1024_S1x1024x1024_1_0_0
abbrev R1_0 : Rect S1x1024x1024 := Rect.unit (s := S1x1024x1024) ![0, 0, 0] S1x1024x1024.size inb_S1x1024x1024_S1x1024x1024_0_0_0
abbrev RwL : Rect S1024x2048 := Rect.unit (s := S1024x2048) ![0, 0] S1024x1024.size inb_S1024x2048_S1024x1024_0_0
abbrev RwR : Rect S1024x2048 := Rect.unit (s := S1024x2048) ![0, 1024] S1024x1024.size inb_S1024x2048_S1024x1024_0_1024

abbrev mX : Memref sig .tc .hbm S4096x1024 .f32 := Memref.whole main_arg0
abbrev mW : Memref sig .tc .vmem S1024x2048 .f32 := Memref.whole cc0_stg0_0
abbrev mO : Memref sig .tc .hbm S4096x2048 .f32 := Memref.whole main_v1
abbrev mXb : Memref sig .tc .vmem S1x1024x1024 .f32 := Memref.whole cc0_scratch0
abbrev mA : Memref sig .tc .vmem S4x1024x1024 .f32 := Memref.whole cc0_scratch1
abbrev mB : Memref sig .tc .vmem S4x1024x1024 .f32 := Memref.whole cc0_scratch2
abbrev mQA : Memref sig .tc .vmem S4x1024x1024 .i8 := Memref.whole cc0_scratch3
abbrev mQB : Memref sig .tc .vmem S4x1024x1024 .i8 := Memref.whole cc0_scratch4
abbrev mT : Memref sig .tc .vmem S2x1024x1024 .f32 := Memref.whole cc0_scratch5
abbrev mM : Memref sig .tc .vmem S4x8x128 .f32 := Memref.whole cc0_scratch6

abbrev xb : Memref sig .tc .vmem S1x1024x1024 .f32 := mXb.slice R1_0 (fun _ => rfl)
abbrev A0 : Memref sig .tc .vmem S1x1024x1024 .f32 := mA.slice R4_0 (fun _ => rfl)
abbrev A1 : Memref sig .tc .vmem S1x1024x1024 .f32 := mA.slice R4_1 (fun _ => rfl)
abbrev A2 : Memref sig .tc .vmem S1x1024x1024 .f32 := mA.slice R4_2 (fun _ => rfl)
abbrev A3 : Memref sig .tc .vmem S1x1024x1024 .f32 := mA.slice R4_3 (fun _ => rfl)
abbrev B0 : Memref sig .tc .vmem S1x1024x1024 .f32 := mB.slice R4_0 (fun _ => rfl)
abbrev B1 : Memref sig .tc .vmem S1x1024x1024 .f32 := mB.slice R4_1 (fun _ => rfl)
abbrev B2 : Memref sig .tc .vmem S1x1024x1024 .f32 := mB.slice R4_2 (fun _ => rfl)
abbrev B3 : Memref sig .tc .vmem S1x1024x1024 .f32 := mB.slice R4_3 (fun _ => rfl)
abbrev QA0 : Memref sig .tc .vmem S1x1024x1024 .i8 := mQA.slice R4_0 (fun _ => rfl)
abbrev QA1 : Memref sig .tc .vmem S1x1024x1024 .i8 := mQA.slice R4_1 (fun _ => rfl)
abbrev QA2 : Memref sig .tc .vmem S1x1024x1024 .i8 := mQA.slice R4_2 (fun _ => rfl)
abbrev QA3 : Memref sig .tc .vmem S1x1024x1024 .i8 := mQA.slice R4_3 (fun _ => rfl)
abbrev QB0 : Memref sig .tc .vmem S1x1024x1024 .i8 := mQB.slice R4_0 (fun _ => rfl)
abbrev QB1 : Memref sig .tc .vmem S1x1024x1024 .i8 := mQB.slice R4_1 (fun _ => rfl)
abbrev QB2 : Memref sig .tc .vmem S1x1024x1024 .i8 := mQB.slice R4_2 (fun _ => rfl)
abbrev QB3 : Memref sig .tc .vmem S1x1024x1024 .i8 := mQB.slice R4_3 (fun _ => rfl)
abbrev T0 : Memref sig .tc .vmem S1x1024x1024 .f32 := mT.slice R2_0 (fun _ => rfl)
abbrev T1 : Memref sig .tc .vmem S1x1024x1024 .f32 := mT.slice R2_1 (fun _ => rfl)
/-- Row `p` of the table of maxima. -/
abbrev rRow (p : Dev nD) : Rect S4x8x128 := Rect.unit (s := S4x8x128) (k0_off5 p) S1x8x128.size (k0_off5_inb p)
abbrev row (p : Dev nD) : Memref sig .tc .vmem S1x8x128 .f32 := mM.slice (rRow p) (fun _ => rfl)
/-- Block `s` of the result's left and right half, in the order device `c` writes them. -/
abbrev rOL (c : Dev nD) (s : Fin 4) : Rect S4096x2048 :=
  Rect.unit (s := S4096x2048) (k0_off6 c (BitVec.ofNat 32 s.val)) S1024x1024.size (k0_off6_inb c s)
abbrev rOR (c : Dev nD) (s : Fin 4) : Rect S4096x2048 :=
  Rect.unit (s := S4096x2048) (k0_off7 c (BitVec.ofNat 32 s.val)) S1024x1024.size (k0_off7_inb c s)
abbrev OL (c : Dev nD) (s : Fin 4) : Memref sig .tc .hbm S1024x1024 .f32 := mO.slice (rOL c s) (fun _ => rfl)
abbrev OR (c : Dev nD) (s : Fin 4) : Memref sig .tc .hbm S1024x1024 .f32 := mO.slice (rOR c s) (fun _ => rfl)

/-- A one-slot memref with its first axis dropped, as the copies name it. -/
abbrev sq {e : EltTy} (a : Memref sig .tc .vmem S1x1024x1024 e) : Memref sig .tc .vmem S1024x1024 e :=
  a.squeeze S1024x1024 squeezes_S1x1024x1024_S1024x1024

/-- A matrix read of a one-slot block: its first axis dropped. -/
abbrev flat {α : Type} (X : S1x1024x1024.Idx → α) : S1024x1024.Idx → α :=
  fun j => X (Shape.reshapeEquiv squeezes_S1x1024x1024_S1024x1024.numel_eq j)
/-- A one-slot block made of a matrix. -/
abbrev unflat {α : Type} (X : S1024x1024.Idx → α) : S1x1024x1024.Idx → α :=
  fun j => X ((Shape.reshapeEquiv squeezes_S1x1024x1024_S1024x1024.numel_eq).symm j)

theorem flat_unflat {α : Type} (X : S1024x1024.Idx → α) : flat (unflat X) = X := by
  funext j; exact congrArg X (Equiv.symm_apply_apply _ j)

/-- Device `c` owns share `q` of memref `a`, which reads `X`; -/
abbrev own (c : Dev nD) {sp : Space} {s : Shape} {e : EltTy} (a : Memref sig .tc sp s e) (q : PosShare TreeShare) (X : s.Idx → Elt F e) : sProp 𝕄 :=
  owns (Ix := Unit) (Name := ℕ) (U := UU) (Lvl := ℕ) (c : Thread nD τ) a q X
/-- it owns all of it, at some contents. -/
abbrev any (c : Dev nD) {sp : Space} {s : Shape} {e : EltTy} (a : Memref sig .tc sp s e) : sProp 𝕄 :=
  iprop(∃ X : s.Idx → Elt F e, own c a fullShare X)

/-! ## The contents -/

/-- Device `c`'s columns of `x`; -/
def xg (c : Dev nD) : S4096x1024.Idx → Elt F .f32 := m ((c : Thread nD τ).loc main_arg0)
/-- and its rows of `w`, as its window stages them. -/
def wg (c : Dev nD) : S1024x2048.Idx → Elt F .f32 := (win0_0.blk (0 : Fin 1)).view.read (Elt F) ((s₀ m ρ).mem ((c : Thread nD τ).loc main_arg1))

theorem inb_chunk (r : Dev nD) : ∀ a, (![1024 * r.val, 0] : Fin 2 → Nat) a + S1024x1024.size a ≤ S4096x1024.size a := by
  revert r; decide +kernel
/-- Rows `1024 r` and on of `x`. -/
abbrev rX (r : Dev nD) : Rect S4096x1024 := Rect.unit (s := S4096x1024) ![1024 * r.val, 0] S1024x1024.size (inb_chunk r)
/-- Row block `r` of device `c`'s columns of `x`. -/
def xch (c r : Dev nD) : S1x1024x1024.Idx → Elt F .f32 := unflat fun j => xg m c ((rX r).emb j)
/-- The left and the right half of device `c`'s rows of `w`. -/
def wL (c : Dev nD) : S1024x1024.Idx → Elt F .f32 := fun j => wg m ρ c (RwL.emb j)
def wR (c : Dev nD) : S1024x1024.Idx → Elt F .f32 := fun j => wg m ρ c (RwR.emb j)

/-- Device `c`'s partial products, in the order it makes them; -/
def pa1 (c : Dev nD) := k0_pay4 (xch m c (sh c 3)) (wL m ρ c)
def pb1 (c : Dev nD) := k0_pay5 (xch m c (sh c 1)) (wR m ρ c)
def pa2 (c : Dev nD) := k0_pay8 (xch m c (sh c 2)) (wL m ρ c)
def pb2 (c : Dev nD) := k0_pay11 (k0_pay9 (xch m c (sh c 2))) (k0_pay10 (wR m ρ c)) (constant S1024x1024 .f32 0x00000000#32)
def pa3 (c : Dev nD) := k0_pay14 (xch m c (sh c 1)) (wL m ρ c)
def pb3 (c : Dev nD) := k0_pay15 (xch m c (sh c 3)) (wR m ρ c)
/-- what its slot `s` of the right-going ring holds after its own addition; -/
def ra0 (c : Dev nD) := k0_pay1 (xch m c c) (wL m ρ c)
def ra1 (c : Dev nD) := k0_pay6 (ra0 m ρ (sh c 3)) (pa1 m ρ c)
def ra2 (c : Dev nD) := k0_pay12 (ra1 m ρ (sh c 3)) (pa2 m ρ c)
def ra3 (c : Dev nD) := k0_pay16 (ra2 m ρ (sh c 3)) (pa3 m ρ c)
/-- and of the left-going ring. -/
def rb0 (c : Dev nD) := k0_pay3 (k0_pay2 (xch m c c)) (wR m ρ c)
def rb1 (c : Dev nD) := k0_pay7 (rb0 m ρ (sh c 1)) (pb1 m ρ c)
def rb2 (c : Dev nD) := k0_pay13 (rb1 m ρ (sh c 1)) (pb2 m ρ c)
def rb3 (c : Dev nD) := k0_pay17 (rb2 m ρ (sh c 1)) (pb3 m ρ c)

/-- Device `c`'s maximum, spread over its row; -/
def am (c : Dev nD) := k0_pay18 (ra3 m ρ c) (rb3 m ρ c)
/-- the whole table of maxima; -/
def amAll : S4x8x128.Idx → Elt F .f32 :=
  fun i => am m ρ (i 0) (fun a => match a with | ⟨0, _⟩ => ⟨0, Nat.one_pos⟩ | ⟨1, _⟩ => i 1 | ⟨2, _⟩ => i 2)
/-- the maxima as the body reads them, the quantization step; -/
def av := k0_pay19 (amAll m ρ)
def sc := k0_pay20 (av m ρ)
/-- device `c`'s quantized blocks of the two rings. -/
def qa0 (c : Dev nD) := k0_pay21 (av m ρ) (ra3 m ρ c)
def qb0 (c : Dev nD) := k0_pay24 (k0_pay22 (av m ρ) (rb3 m ρ c)) (Scalar.ofBits .f32 0x42FE0000#32) k0_pay23

/-! ## The cells -/

/-- The semaphores, numbered: the DMA semaphores by their index, then the barrier and the exit. -/
def smOf (k : ℕ) : SemLoc sig := if h : k < 40 then .dma ⟨k, h⟩ else if k = 40 then .reg 0 else .reg 1
def kOf : SemLoc sig → ℕ | .dma q => q.val | .reg s => 40 + s.val
theorem kOf_smOf : ∀ k < 42, kOf (smOf k) = k := by decide

abbrev cellAt (c : Dev nD) (k : ℕ) : GSem nD τ sig := ((c : Thread nD τ), smOf k)

/-- The credit of one slot of the sums' rings, of the quantized rings, of one row of maxima. -/
abbrev NF : ℕ := (sq A1).view.dmaCredit
abbrev NI : ℕ := (sq QA1).view.dmaCredit
abbrev NR : ℕ := (row 0).view.dmaCredit
theorem NF_pos : 0 < NF := View.dmaCredit_pos _ (by decide)
theorem NI_pos : 0 < NI := View.dmaCredit_pos _ (by decide)
theorem NR_pos : 0 < NR := View.dmaCredit_pos _ (by decide)

/-- The duties of cell `k`, what one pays, what all pay, and the cell's level. -/
def dutyK (k : ℕ) : Finset Bool := if k = 40 ∨ k = 41 then Finset.univ else if 1 ≤ k ∧ k ≤ 30 then {false} else ∅
def amtK (k : ℕ) : ℕ := if 40 ≤ k then 1 else if k ≤ 12 then NF else if k ≤ 24 then NI else NR
def totK (k : ℕ) : ℕ := if 40 ≤ k then 2 else amtK k
def lvK (k : ℕ) : ℕ :=
  match k with
  | 40 => 1 | 4 => 2 | 10 => 2 | 5 => 3 | 11 => 3 | 6 => 4 | 12 => 4 | 28 => 5 | 29 => 5 | 30 => 5
  | 16 => 6 | 22 => 6 | 17 => 7 | 23 => 7 | 18 => 8 | 24 => 8 | 41 => 9 | _ => 0

theorem amtK_pos (k : ℕ) : 0 < amtK k := by
  unfold amtK; split; · exact Nat.one_pos
  split; · exact NF_pos
  split; · exact NI_pos
  exact NR_pos

/-- What paying cell `k` of device `c` hands `c`. -/
def payK (c : Dev nD) (k : ℕ) (d : Bool) : sProp 𝕄 :=
  match k with
  | 40 => match d with
    | true => iprop(any (sh c 1) A1 ∗ any (sh c 1) A2 ∗ any (sh c 1) A3 ∗ any (sh c 1) QA1 ∗ any (sh c 1) QA2 ∗ any (sh c 1) QA3
        ∗ any (sh c 1) (row c) ∗ any (sh c 1) (row (sh c 3)))
    | false => iprop(any (sh c 3) B1 ∗ any (sh c 3) B2 ∗ any (sh c 3) B3 ∗ any (sh c 3) QB1 ∗ any (sh c 3) QB2 ∗ any (sh c 3) QB3
        ∗ any (sh c 3) (row c))
  | 1 => own c A0 fullShare (ra0 m ρ c)
  | 2 => own c A1 fullShare (ra1 m ρ c)
  | 3 => own c A2 fullShare (ra2 m ρ c)
  | 4 => own c A1 fullShare (ra0 m ρ (sh c 3))
  | 5 => own c A2 fullShare (ra1 m ρ (sh c 3))
  | 6 => own c A3 fullShare (ra2 m ρ (sh c 3))
  | 7 => own c B0 fullShare (rb0 m ρ c)
  | 8 => own c B1 fullShare (rb1 m ρ c)
  | 9 => own c B2 fullShare (rb2 m ρ c)
  | 10 => iprop(own c B1 fullShare (rb0 m ρ (sh c 1)) ∗ any (sh c 2) (row c))
  | 11 => own c B2 fullShare (rb1 m ρ (sh c 1))
  | 12 => own c B3 fullShare (rb2 m ρ (sh c 1))
  | 13 => own c QA0 fullShare.left (qa0 m ρ c)
  | 14 => own c QA1 fullShare.left (qa0 m ρ (sh c 3))
  | 15 => own c QA2 fullShare.left (qa0 m ρ (sh c 2))
  | 16 => own c QA1 fullShare (qa0 m ρ (sh c 3))
  | 17 => own c QA2 fullShare (qa0 m ρ (sh c 2))
  | 18 => own c QA3 fullShare (qa0 m ρ (sh c 1))
  | 19 => own c QB0 fullShare.left (qb0 m ρ c)
  | 20 => own c QB1 fullShare.left (qb0 m ρ (sh c 1))
  | 21 => own c QB2 fullShare.left (qb0 m ρ (sh c 2))
  | 22 => own c QB1 fullShare (qb0 m ρ (sh c 1))
  | 23 => own c QB2 fullShare (qb0 m ρ (sh c 2))
  | 24 => own c QB3 fullShare (qb0 m ρ (sh c 3))
  | 25 => own c (row c) fullShare.left (am m ρ c)
  | 26 => own c (row c) fullShare.right.left (am m ρ c)
  | 27 => own c (row c) fullShare.right.right (am m ρ c)
  | 28 => own c (row (sh c 3)) fullShare (am m ρ (sh c 3))
  | 29 => own c (row (sh c 2)) fullShare (am m ρ (sh c 2))
  | 30 => own c (row (sh c 1)) fullShare (am m ρ (sh c 1))
  | _ => iprop(emp)

/-- One round, round 0, at each of the ring's cells. -/
def sched : Rounds.Schedule (GSem nD τ sig) Bool 𝕄 where
  duties g r := if r = 0 ∧ g.1.2 = .tc then dutyK (kOf g.2) else ∅
  unitless _ := False
  amount g _ _ := amtK (kOf g.2)
  payload g _ d := payK m ρ g.1.1 (kOf g.2) d
  amount_pos g _ _ _ := amtK_pos _

instance sched_payload_storable (g : GSem nD τ sig) (r : ℕ) (d : Bool) :
    BI.Storable (upEmb : UEmb _ 𝕄) ((sched m ρ).payload g r d) := by
  show BI.Storable upEmb (payK m ρ g.1.1 (kOf g.2) d)
  unfold payK
  (repeat' split) <;> infer_instance

section Sched
variable (c : Dev nD) {k : ℕ} (hk : k < 42)
include hk

theorem duties_at : (sched m ρ).duties (cellAt c k) 0 = dutyK k := by
  dsimp only [sched]; rw [if_pos ⟨rfl, rfl⟩, kOf_smOf k hk]
theorem amount_at (d : Bool) : (sched m ρ).amount (cellAt c k) 0 d = amtK k := by
  dsimp only [sched]; rw [kOf_smOf k hk]
theorem payload_at (d : Bool) : (sched m ρ).payload (cellAt c k) 0 d = payK m ρ c k d := by
  dsimp only [sched]; rw [kOf_smOf k hk]

/-- All that cell `k` of device `c` is paid. -/
def restK (c : Dev nD) (k : ℕ) : sProp 𝕄 := if 40 ≤ k then iprop(payK m ρ c k false ∗ payK m ρ c k true) else payK m ρ c k false

theorem expect_at (hne : dutyK k ≠ ∅) : (sched m ρ).expect (cellAt c k) 0 = totK k := by
  unfold Schedule.expect Schedule.amountOf
  rw [duties_at m ρ c hk, Finset.sum_congr rfl fun d _ => amount_at m ρ c hk d, Finset.sum_const, smul_eq_mul]
  unfold dutyK at hne ⊢
  unfold totK
  by_cases h : k = 40 ∨ k = 41
  · rw [if_pos h, if_pos (by omega), Finset.card_univ, Fintype.card_bool]; unfold amtK; rw [if_pos (by omega)]
  · rw [if_neg h] at hne ⊢
    by_cases h' : 1 ≤ k ∧ k ≤ 30
    · rw [if_pos h', if_neg (by omega), Finset.card_singleton, one_mul]
    · rw [if_neg h'] at hne; exact absurd rfl hne

theorem rest_at (hne : dutyK k ≠ ∅) :
    bigSep ((sched m ρ).duties (cellAt c k) 0 \ ∅) (fun d => (sched m ρ).payload (cellAt c k) 0 d) = restK m ρ c k := by
  rw [Finset.sdiff_empty, duties_at m ρ c hk]
  unfold dutyK at hne ⊢
  unfold restK
  by_cases h : k = 40 ∨ k = 41
  · rw [if_pos h, if_pos (by omega), bigSep_univ_eq_bigSepL [false, true] (by decide) (by decide), bigSepL_cons_cons, bigSepL_singleton,
      payload_at m ρ c hk, payload_at m ρ c hk]
    rfl
  · rw [if_neg h] at hne ⊢
    by_cases h' : 1 ≤ k ∧ k ≤ 30
    · rw [if_pos h', if_neg (by omega), bigSep_singleton, payload_at m ρ c hk]
    · rw [if_neg h'] at hne; exact absurd rfl hne

end Sched

theorem duties_later (g : GSem nD τ sig) : ∀ r, 0 + 1 ≤ r → (sched m ρ).duties g r = ∅ :=
  fun r hr => by dsimp only [sched]; rw [if_neg fun h => by omega]

/-! ## The payments and the waits, in program order -/

/-- A payment: how far to the right its cell's device is, the cell, the payer's own cell (0 if none) and the duty. -/
structure Pay where
  j : ℕ
  k : ℕ
  k₁ : ℕ
  d : Bool

def pays : List Pay := [
  ⟨3, 40, 0, true⟩, ⟨1, 40, 0, false⟩,
  ⟨1, 4, 1, false⟩, ⟨3, 10, 7, false⟩, ⟨1, 5, 2, false⟩, ⟨3, 11, 8, false⟩, ⟨1, 6, 3, false⟩, ⟨3, 12, 9, false⟩,
  ⟨1, 28, 25, false⟩, ⟨2, 29, 26, false⟩, ⟨3, 30, 27, false⟩,
  ⟨1, 16, 13, false⟩, ⟨3, 22, 19, false⟩, ⟨1, 17, 14, false⟩, ⟨3, 23, 20, false⟩, ⟨1, 18, 15, false⟩, ⟨3, 24, 21, false⟩,
  ⟨3, 41, 0, true⟩, ⟨1, 41, 0, false⟩]

/-- The cells a device waits on, in order. -/
def wlist : List ℕ := [40, 1, 4, 7, 10, 2, 5, 8, 11, 3, 6, 9, 12, 25, 28, 26, 29, 27, 30,
  13, 16, 19, 22, 14, 17, 20, 23, 15, 18, 21, 24, 41]

/-- The cells other devices pay. -/
def isRecv (k : ℕ) : Bool := decide (0 < lvK k)

def debtL (c : Dev nD) : List Pay → CellTallies nD τ sig Unit
  | [] => 0
  | p :: ps => debtL c ps + tallyAt (cellAt (sh c p.j) p.k) () (amtK p.k)
/-- What device `c` owes after its first `n` payments. -/
def debt (c : Dev nD) (n : ℕ) : CellTallies nD τ sig Unit := debtL c (pays.drop n)

/-- The tokens device `c` makes one payment with. -/
def lnk (c : Dev nD) (p : Pay) : sProp 𝕄 :=
  iprop(dutyTok ER (cellAt (sh c p.j) p.k) 0 p.d ∗ (if p.k₁ = 0 then iprop(emp) else dutyTok ER (cellAt c p.k₁) 0 false))
def lnks (c : Dev nD) : List Pay → sProp 𝕄
  | [] => iprop(emp)
  | p :: ps => iprop(lnk c p ∗ lnks c ps)

theorem lnks_cons (c : Dev nD) (p : Pay) (ps : List Pay) : (lnks c (p :: ps) : sProp 𝕄)
    = iprop((dutyTok ER (cellAt (sh c p.j) p.k) 0 p.d ∗ (if p.k₁ = 0 then iprop(emp) else dutyTok ER (cellAt c p.k₁) 0 false)) ∗ lnks c ps) := rfl

/-- Its positions at the cells it still waits on, with the credit of those that others pay. -/
def wt (c : Dev nD) (k : ℕ) : sProp 𝕄 :=
  iprop(atPos ER (cellAt c k) 0 ∅ 0 ∗ (if isRecv k = true then cred (tallyAt (cellAt c k) () (totK k)) else iprop(emp)))
def wts (c : Dev nD) : List ℕ → sProp 𝕄
  | [] => iprop(emp)
  | k :: ks => iprop(wt c k ∗ wts c ks)

theorem wts_cons (c : Dev nD) (k : ℕ) (ks : List ℕ) : (wts c (k :: ks) : sProp 𝕄)
    = iprop((atPos ER (cellAt c k) 0 ∅ 0 ∗ (if isRecv k = true then cred (tallyAt (cellAt c k) () (totK k)) else iprop(emp))) ∗ wts c ks) := rfl

/-- Its counters, of the cells it is done with. -/
def zs (c : Dev nD) : ℕ → sProp 𝕄
  | 0 => iprop(emp)
  | w + 1 => iprop(zs c w ∗ semVal (cellAt c (wlist.getD w 0)) 0)

/-- Where device `c` stands in the protocol after `n` payments and `w` waits. -/
def st (c : Dev nD) (n w : ℕ) : sProp 𝕄 :=
  iprop((∃ W, owes (c : Thread nD τ) (debt c n) W) ∗ lnks c (pays.drop n) ∗ wts c (wlist.drop w) ∗ zs c w)

/-! ## The levels -/

def L (g : GSem nD τ sig) : Finset Unit := if g.1.2 = .tc then {()} else ∅
def lv (g : GSem nD τ sig) (_ : Unit) : ℕ := lvK (kOf g.2)

theorem L_of_ne (g : GSem nD τ sig) (h : g.1.2 ≠ .tc) : L g = ∅ := if_neg h
theorem L_tc (c : Dev nD) (sm : SemLoc sig) : L ((c : Thread nD τ), sm) = {()} := if_pos rfl

theorem debtL_pos {c : Dev nD} {ps : List Pay} {g : GSem nD τ sig} {u : Unit} (h : 0 < debtL c ps g u) :
    ∃ p ∈ ps, g = cellAt (sh c p.j) p.k := by
  induction ps with
  | nil => exact absurd h (Nat.lt_irrefl 0)
  | cons p ps ih =>
    unfold debtL at h
    rw [Pi.add_apply, Finsupp.add_apply, tallyAt_apply] at h
    by_cases hg : g = cellAt (sh c p.j) p.k
    · exact ⟨p, List.mem_cons_self, hg⟩
    · rw [if_neg (fun h' => hg h'.1), Nat.add_zero] at h
      obtain ⟨p', hp', hg'⟩ := ih h
      exact ⟨p', List.mem_cons_of_mem _ hp', hg'⟩

theorem pays_lt : ∀ p ∈ pays, p.k < 42 := by decide

/-- A device may wait on a cell below every cell it still has to pay. -/
theorem mayWait {c : Dev nD} {n : ℕ} {sm : SemLoc sig} (h : ∀ p ∈ pays.drop n, lvK (kOf sm) < lvK p.k) :
    (levAts L lv : sProp 𝕄) ⊢ MayWait (c : Thread nD τ) sm () (debt c n) := by
  have hk {p : Pay} (hp : p ∈ pays.drop n) : kOf (smOf p.k) = p.k := kOf_smOf _ (pays_lt p (List.mem_of_mem_drop hp))
  refine MayOwe.of_cut (L := L) (lev := lv) (lvK (kOf sm)) (fun p hp => by rw [Finset.mem_singleton.mp hp, L_tc]; exact Finset.mem_singleton_self _)
    (fun g u hg => by obtain ⟨p, -, rfl⟩ := debtL_pos hg; rw [L_tc]; exact Finset.mem_singleton_self _)
    (fun p hp => by rw [Finset.mem_singleton.mp hp]; exact le_rfl)
    (fun g u hg => by
      obtain ⟨p, hp, rfl⟩ := debtL_pos hg
      show lvK (kOf sm) < lvK (kOf (smOf p.k))
      rw [hk hp]; exact h p hp)

/-! ## The steps -/

/-- Where the ring's cell `k` stands in the launch's numbering of a device's cells, and back. -/
def ix (k : ℕ) : Fin 32 := if h : wlist.idxOf k < 32 then ⟨wlist.idxOf k, h⟩ else 0
def kk (i : Fin 32) : ℕ := wlist.getD i.val 0

/-- One cell's invariant, under name `κ`, and that it has reached round 0. -/
def cellFact (κ : ℕ) (c : Dev nD) (k : ℕ) : sProp 𝕄 := iprop(cellInv ER (sched m ρ) κ (cellAt c k) ∗ reached ER (cellAt c k) 0)
instance cellFact_persistent (κ : ℕ) (c : Dev nD) (k : ℕ) : BI.Persistent (cellFact m ρ κ c k) := by unfold cellFact; infer_instance

/-- What every device knows all along: each cell's invariant, that it has reached its round, and the levels. -/
def env (K : Dev nD × Fin 32 → ℕ) : sProp 𝕄 :=
  iprop(bigSep Finset.univ (fun ck : Dev nD × Fin 32 => cellFact m ρ (K ck) ck.1 (kk ck.2)) ∗ levAts L lv)
instance env_persistent (K : Dev nD × Fin 32 → ℕ) : BI.Persistent (env m ρ K) := by unfold env; infer_instance

variable (K : Dev nD × Fin 32 → ℕ)

theorem env_cell (c : Dev nD) {k : ℕ} (hk : kk (ix k) = k) : env m ρ K ⊢ cellFact m ρ (K (c, ix k)) c k := by
  unfold env
  refine Entails.trans sep_elim_left ?_
  refine .trans (bigSep_elim (Finset.mem_univ (c, ix k))) ?_
  show cellFact m ρ (K (c, ix k)) c (kk (ix k)) ⊢ _
  rw [hk]
theorem env_lev : env m ρ K ⊢ levAts L lv := by unfold env; exact sep_elim_right

/-- What is needed of a payment's list entry. -/
structure PayOk (n : ℕ) (p : Pay) : Prop where
  at_n : pays.drop n = p :: pays.drop (n + 1)
  duty : p.d ∈ dutyK p.k
  ok : kk (ix p.k) = p.k ∧ p.k < 42

section Steps
variable {α : Type} {Q : α → sProp (MT nD τ sig Unit (Elt F) ℕ UU ℕ)}

/-- Paying a regular semaphore of the device `p.j` places to the right. -/
theorem step_signal {c c' : Dev nD} {n w : ℕ} (p : Pay) (hp : PayOk n p) (hc : c' = sh c p.j) (hk₁ : p.k₁ = 0) {s : Sem sig}
    (hs : SemLoc.reg s = smOf p.k) (ha : amtK p.k = 1) {nn : ℤ} (hnn : nn = ((1 : ℕ) : ℤ)) {k : PUnit → Prog (TpuEff nD τ sig (Elt F) Λ₀ .tc) α} :
    iprop(env m ρ K ∗ payK m ρ (sh c p.j) p.k p.d ∗ st c n w)
      ⊢ iprop((st c (n + 1) w -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (c' : Thread nD τ) s nn) k) Q) := by
  subst hc hnn
  unfold st
  rw [hp.at_n]
  iintro ⟨#Henv, Hpay, ⟨%W, HO⟩, Hl, Hw, Hz⟩ Hk
  have hsig : iprop(cellInv ER (sched m ρ) (K (sh c p.j, ix p.k)) ((sh c p.j : Thread nD τ), .reg s) ∗ owes (c : Thread nD τ) (debt c n) W
        ∗ dutyTok ER ((sh c p.j : Thread nD τ), .reg s) 0 p.d ∗ (sched m ρ).payload ((sh c p.j : Thread nD τ), .reg s) 0 p.d
        ∗ reached ER ((sh c p.j : Thread nD τ), .reg s) 0)
      ⊢ iprop((owes (c : Thread nD τ) (debt c (n + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (sh c p.j : Thread nD τ) s ((1 : ℕ) : ℤ)) k) Q) :=
    Rounds.wp_signal 𝒱₀ ER (sched m ρ) (c : Thread nD τ) none (r := 0) (d := p.d) (k' := 1)
      (by rw [hs, duties_at m ρ _ hp.ok.2]; exact hp.duty) (by rw [hs, amount_at m ρ _ hp.ok.2, ha]) () (debt c (n + 1))
      (by unfold debt; rw [hp.at_n, debtL, hs, ha])
  rw [hs, payload_at m ρ _ hp.ok.2] at hsig
  ihave #Hc := (env_cell m ρ K (sh c p.j) hp.ok.1) $$ Henv
  unfold cellFact
  icases Hc with ⟨#HI, #HR⟩
  ihave Hl := (Entails.of_eq (lnks_cons c p _)) $$ Hl
  rw [if_pos hk₁]
  icases Hl with ⟨⟨Ht, -⟩, Hl⟩
  iapply hsig $$ [HO Ht Hpay]
  · isplitr; · iexact HI
    isplitl [HO]; · iexact HO
    isplitl [Ht]; · iexact Ht
    isplitl [Hpay]; · iexact Hpay
    iexact HR
  iintro HO
  iapply Hk
  isplitl [HO]; · iexists W; iexact HO
  isplitl [Hl]; · iexact Hl
  isplitl [Hw] <;> iassumption

/-- Copying an owned memref over one of the device `p.j` places to the right, which pays that device's cell and the
    sender's own; `Fw` is handed over with the copy. -/
theorem step_send {c c' : Dev nD} {n w : ℕ} (p : Pay) (hp : PayOk n p) (hc : c' = sh c p.j) (hk₁ : p.k₁ ≠ 0)
    (hok₁ : kk (ix p.k₁) = p.k₁ ∧ p.k₁ < 42) (hd₁ : false ∈ dutyK p.k₁)
    {sp sp' : Space} {s : Shape} {e : EltTy} {src : Memref sig .tc sp s e} {dst : Memref sig .tc sp' s e}
    {sS sR : SemLoc sig} (hS : sS = smOf p.k₁) (hR : sR = smOf p.k)
    (hN : dst.view.amount sR = amtK p.k) (ha : amtK p.k₁ = amtK p.k)
    {hsc : (dst : Memref sig (Dev.tc c' : Thread nD τ).2.kind sp' s e).view.ref.isScScratch = false}
    {hsrc : src.view.WordExact} {hdst : dst.view.WordExact}
    {hsem : DmaTarget.Typed sp sR (.remote (Dev.tc c' : Thread nD τ) (dst : Memref sig (Dev.tc c' : Thread nD τ).2.kind sp' s e) sS hsc)}
    {k : PUnit → Prog (TpuEff nD τ sig (Elt F) Λ₀ .tc) α} {q : PosShare TreeShare} {X Y : s.Idx → Elt F e} {Fw : sProp 𝕄}
    (h₁ : own c src q X ⊢ payK m ρ c p.k₁ false)
    (h₂ : iprop(own (sh c p.j) dst fullShare X ∗ Fw) ⊢ payK m ρ (sh c p.j) p.k p.d) :
    iprop(env m ρ K ∗ own c src q X ∗ own (sh c p.j) dst fullShare Y ∗ Fw ∗ st c n w)
      ⊢ iprop(((cred (tallyAt (cellAt c p.k₁) () (amtK p.k₁)) ∗ st c (n + 1) w)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst sS hsc) sR hsrc hdst hsem) k) Q) := by
  subst hc hS hR
  have hopen (c : Dev nD) {sp : Space} (a : Memref sig .tc sp s e) (q : PosShare TreeShare) (X : s.Idx → Elt F e) : own c a q X
      ⊢ iprop(∃ g, ⌜a.view.read (Elt F) g = X⌝ ∗ a.view.loc (c : Thread nD τ) ↦[a.view.set]{q} g) := .rfl
  unfold st
  rw [hp.at_n]
  iintro ⟨#Henv, Hs, Hd, HF, ⟨%W, HO⟩, Hl, Hw, Hz⟩ Hk
  ihave H' := (hopen c src q X) $$ Hs
  icases H' with ⟨%fs, %hfs, Hs⟩
  ihave H' := (hopen (sh c p.j) dst fullShare Y) $$ Hd
  icases H' with ⟨%fd, %hfd, Hd⟩
  subst hfs
  have hsend : iprop(cellInv ER (sched m ρ) (K (c, ix p.k₁)) ((c : Thread nD τ), (smOf p.k₁))
        ∗ cellInv ER (sched m ρ) (K (sh c p.j, ix p.k)) ((sh c p.j : Thread nD τ), (smOf p.k))
        ∗ (src.view.loc (c : Thread nD τ) ↦[src.view.set]{q} fs) ∗ ((dst.view.loc (sh c p.j : Thread nD τ) ↦[dst.view.set]{fullShare} fd) ∗ Fw)
        ∗ owes (c : Thread nD τ) (debt c n) W
        ∗ dutyTok ER ((c : Thread nD τ), (smOf p.k₁)) 0 false ∗ reached ER ((c : Thread nD τ), (smOf p.k₁)) 0
        ∗ dutyTok ER ((sh c p.j : Thread nD τ), (smOf p.k)) 0 p.d ∗ reached ER ((sh c p.j : Thread nD τ), (smOf p.k)) 0)
      ⊢ iprop(((cred (tallyAt ((c : Thread nD τ), (smOf p.k₁)) () (amtK p.k₁)) ∗ owes (c : Thread nD τ) (debt c (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (sh c p.j) : Thread nD τ) dst (smOf p.k₁) hsc) (smOf p.k) hsrc hdst hsem) k) Q) :=
    Rounds.wp_send_pointsTo_with 𝒱₀ ER (sched m ρ) (c : Thread nD τ) none
      (F := Fw) (κ₁ := K (c, ix p.k₁)) (κ₂ := K (sh c p.j, ix p.k)) (r₁ := 0) (r₂ := 0) (d₁ := false) (d₂ := p.d)
      (by rw [duties_at m ρ _ hok₁.2]; exact hd₁) (by rw [duties_at m ρ _ hp.ok.2]; exact hp.duty)
      () () (amtK p.k₁) (hN.trans ha.symm) (by rw [amount_at m ρ _ hok₁.2]) (by rw [amount_at m ρ _ hp.ok.2, ha])
      (debt c (n + 1)) (by unfold debt; rw [hp.at_n, debtL, ha]) (W := W)
      (by rw [payload_at m ρ _ hok₁.2]; exact (owns_intro (c : Thread nD τ) src q fs).trans h₁)
      (by
        rw [payload_at m ρ _ hp.ok.2]
        refine (sep_mono_left ((owns_intro (sh c p.j : Thread nD τ) dst fullShare _).trans (Entails.of_eq ?_))).trans h₂
        rw [View.read_write_univ])
  ihave #Hc := (env_cell m ρ K (sh c p.j) hp.ok.1) $$ Henv
  ihave #Hc₁ := (env_cell m ρ K c hok₁.1) $$ Henv
  unfold cellFact
  icases Hc with ⟨#HI, #HR⟩
  icases Hc₁ with ⟨#HI₁, #HR₁⟩
  ihave Hl := (Entails.of_eq (lnks_cons c p _)) $$ Hl
  rw [if_neg hk₁]
  icases Hl with ⟨⟨Ht, Ht₁⟩, Hl⟩
  iapply hsend $$ [HO Ht Ht₁ Hs Hd HF]
  · isplitr; · iexact HI₁
    isplitr; · iexact HI
    isplitl [Hs]; · iexact Hs
    isplitl [Hd HF]; · isplitl [Hd] <;> iassumption
    isplitl [HO]; · iexact HO
    isplitl [Ht₁]; · iexact Ht₁
    isplitr; · iexact HR₁
    isplitl [Ht]; · iexact Ht
    iexact HR
  iintro ⟨Hc, HO⟩
  iapply Hk
  isplitl [Hc]; · iexact Hc
  isplitl [HO]; · iexists W; iexact HO
  isplitl [Hl]; · iexact Hl
  isplitl [Hw] <;> iassumption

/-- What is needed of a wait's list entry. -/
structure WaitOk (n w k : ℕ) : Prop where
  at_w : wlist.drop w = k :: wlist.drop (w + 1)
  get : wlist.getD w 0 = k
  duty : dutyK k ≠ ∅
  ok : kk (ix k) = k ∧ k < 42
  lev : ∀ p ∈ pays.drop n, lvK k < lvK p.k

/-- Waiting for all of a cell's round, from its credit: its payments are the device's, and its counter. -/
theorem step_wait {c : Dev nD} {n w : ℕ} (k₀ : ℕ) (h : WaitOk n w k₀) {wop : TpuEff nD τ sig (Elt F) Λ₀ .tc PUnit}
    (hwop : ∀ K : PUnit → sProp 𝕄, wpE (defs₀ (F := F)) 𝒱₀ (c : Thread nD τ) none Set.univ wop K = waitSpec (c : Thread nD τ) Set.univ (smOf k₀) (totK k₀) K)
    {k : PUnit → Prog (TpuEff nD τ sig (Elt F) Λ₀ .tc) α} :
    iprop(env m ρ K ∗ (if isRecv k₀ = true then iprop(emp) else cred (tallyAt (cellAt c k₀) () (totK k₀))) ∗ st c n w)
      ⊢ iprop(((restK m ρ c k₀ ∗ st c n (w + 1))
            -∗ wp frame (wpE (defs₀ (F := F)) 𝒱₀ (c : Thread nD τ) none) Set.univ (k ⟨⟩) Q)
          -∗ wp frame (wpE (defs₀ (F := F)) 𝒱₀ (c : Thread nD τ) none) Set.univ (.op wop k) Q) := by
  have hwait (W : Waits sig Unit) := Rounds.wp_wait_rest_token 𝒱₀ ER (sched m ρ) (c : Thread nD τ) none (Q := Q) (defs := defs₀ (F := F)) (k := k) (Es := Set.univ)
    (κ := K (c, ix k₀)) hwop (Set.mem_univ _) () (O := debt c n) (W := W) (R := 0) (m := 0) (T := ∅)
    (by rw [Nat.zero_add, expect_at m ρ c h.ok.2 h.duty])
  have hcl := Rounds.cell_close ER (sched m ρ) (g := cellAt c k₀) (Set.mem_univ (K (c, ix k₀))) (fun h => h) (R := 0 + 1) (duties_later m ρ (cellAt c k₀))
  have hcred : iprop((if isRecv k₀ = true then iprop(emp) else cred (tallyAt (cellAt c k₀) () (totK k₀)))
      ∗ (if isRecv k₀ = true then cred (tallyAt (cellAt c k₀) () (totK k₀)) else iprop(emp))) ⊢ (cred (tallyAt (cellAt c k₀) () (totK k₀)) : sProp 𝕄) := by
    by_cases hr : isRecv k₀ = true
    · rw [if_pos hr, if_pos hr]; iintro ⟨-, H⟩; iexact H
    · rw [if_neg hr, if_neg hr]; iintro ⟨H, -⟩; iexact H
  have hrest := rest_at m ρ c h.ok.2 h.duty
  have hmw : (levAts L lv : sProp 𝕄) ⊢ MayWait (c : Thread nD τ) (smOf k₀) () (debt c n) :=
    mayWait (fun p hp => by rw [kOf_smOf _ h.ok.2]; exact h.lev p hp)
  unfold st
  rw [h.at_w]
  iintro ⟨#Henv, Hc, ⟨%W, HO⟩, Hl, Hw, Hz⟩ Hk
  ihave #HC := (env_cell m ρ K c h.ok.1) $$ Henv
  ihave #HL := (env_lev m ρ K) $$ Henv
  unfold cellFact
  icases HC with ⟨#HI, #HR⟩
  ihave Hw := (Entails.of_eq (wts_cons c k₀ _)) $$ Hw
  icases Hw with ⟨⟨Hat, Hc'⟩, Hw⟩
  iapply (hwait W) $$ [HO Hat Hc Hc']
  · isplitr; · iexact HI
    isplitl [Hc Hc']; · iapply hcred; isplitl [Hc] <;> iassumption
    isplitl [HO]; · iexact HO
    isplitr; · iapply hmw; iexact HL
    iexact Hat
  iintro ⟨HO, Hat, -, Hpay⟩
  ihave Hpay := (Entails.of_eq hrest) $$ Hpay
  imod hcl $$ [Hat] with Hz'
  · isplitr; · iexact HI
    iexact Hat
  iapply Hk
  isplitl [Hpay]; · iexact Hpay
  isplitl [HO]; · iexists (insert (smOf k₀, ()) W); iexact HO
  isplitl [Hl]; · iexact Hl
  isplitl [Hw]; · iexact Hw
  rw [zs, h.get]
  isplitl [Hz] <;> iassumption

/-- A wait for a copy of `step_send`, on the device's own cell; -/
theorem step_waitS {c : Dev nD} {n w : ℕ} (k₀ : ℕ) (h : WaitOk n w k₀) (hr : isRecv k₀ = false) (hk : k₀ < 40) {sp sp' : Space} {s s' : Shape} {e e' : EltTy}
    {sem : DmaSem sig} {src : Memref sig .tc sp' s' e'} {dst : Memref sig .tc sp s e} {hsrc : src.view.WordExact} {hdst : dst.view.WordExact}
    (hs : SemLoc.dma sem = smOf k₀) (hN : dst.view.dmaCredit = amtK k₀)
    {k : PUnit → Prog (TpuEff nD τ sig (Elt F) Λ₀ .tc) α} :
    iprop(env m ρ K ∗ cred (tallyAt (cellAt c k₀) () (amtK k₀)) ∗ st c n w)
      ⊢ iprop(((payK m ρ c k₀ false ∗ st c n (w + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have htot : totK k₀ = amtK k₀ := by unfold totK; rw [if_neg (by omega)]
  have hrest : restK m ρ c k₀ = payK m ρ c k₀ false := by unfold restK; rw [if_neg (by omega)]
  have := step_wait (Q := Q) m ρ K (c := c) k₀ h (wop := .waitDma2 sem src dst hsrc hdst) (k := k)
    (fun K => by rw [wpE_waitDma2_eq, hs, hN, htot])
  rw [if_neg (by rw [hr]; exact Bool.false_ne_true), htot, hrest] at this
  exact this

/-- and for another device's, on the cell it pays. -/
theorem step_waitR {c : Dev nD} {n w : ℕ} (k₀ : ℕ) (h : WaitOk n w k₀) (hr : isRecv k₀ = true) (hk : k₀ < 40) {sp sp' : Space} {s s' : Shape} {e e' : EltTy}
    {sem : DmaSem sig} {src : Memref sig .tc sp' s' e'} {dst : Memref sig .tc sp s e} {hsrc : src.view.WordExact} {hdst : dst.view.WordExact}
    (hs : SemLoc.dma sem = smOf k₀) (hN : dst.view.dmaCredit = amtK k₀)
    {k : PUnit → Prog (TpuEff nD τ sig (Elt F) Λ₀ .tc) α} :
    iprop(env m ρ K ∗ st c n w)
      ⊢ iprop(((payK m ρ c k₀ false ∗ st c n (w + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  have htot : totK k₀ = amtK k₀ := by unfold totK; rw [if_neg (by omega)]
  have hrest : restK m ρ c k₀ = payK m ρ c k₀ false := by unfold restK; rw [if_neg (by omega)]
  have := step_wait (Q := Q) m ρ K (c := c) k₀ h (wop := .waitDma2 sem src dst hsrc hdst) (k := k)
    (fun K => by rw [wpE_waitDma2_eq, hs, hN, htot])
  rw [if_pos hr, hrest] at this
  refine .trans ?_ this
  iintro ⟨#He, Hst⟩
  isplitr; · iexact He
  isplitr; · iempintro
  iexact Hst

/-- The wait for both neighbours' signals on a regular semaphore. -/
theorem step_waitReg {c : Dev nD} {n w : ℕ} (k₀ : ℕ) (h : WaitOk n w k₀) (hr : isRecv k₀ = true) (hk : 40 ≤ k₀)
    {s : Sem sig} (hs : SemLoc.reg s = smOf k₀) {nn : ℤ} (hnn : nn = ((2 : ℕ) : ℤ)) {k : PUnit → Prog (TpuEff nD τ sig (Elt F) Λ₀ .tc) α} :
    iprop(env m ρ K ∗ st c n w)
      ⊢ iprop((((payK m ρ c k₀ false ∗ payK m ρ c k₀ true) ∗ st c n (w + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s nn) k) Q) := by
  subst hnn
  have htot : totK k₀ = 2 := by unfold totK; rw [if_pos hk]
  have hrest : restK m ρ c k₀ = iprop(payK m ρ c k₀ false ∗ payK m ρ c k₀ true) := by unfold restK; rw [if_pos hk]
  have := step_wait (Q := Q) m ρ K (c := c) k₀ h (wop := .semWait s ((2 : ℕ) : ℤ)) (k := k)
    (fun K => by rw [wpE_semWait_eq, hs, htot])
  rw [if_pos hr, hrest] at this
  refine .trans ?_ this
  iintro ⟨#He, Hst⟩
  isplitr; · iexact He
  isplitr; · iempintro
  iexact Hst

end Steps

end Cert.KernelIdealProof

end
-- ==== Proof.KernelIdeal.Split.lean ====
/-
# The buffers and their pieces

The rings' buffers split into their slots, the table of maxima into its rows, the result into its blocks; and the way back.
-/
module

public import proofs.«01_k».proof.Proof.KernelIdeal.Common

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

instance elt_nonempty : ∀ e, Nonempty (Elt F e) := by
  intro e
  cases e
  case i1 => exact ⟨(0 : BitVec 1)⟩
  case i4 => exact ⟨(0 : BitVec 4)⟩
  case i8 => exact ⟨(0 : BitVec 8)⟩
  case i16 => exact ⟨(0 : BitVec 16)⟩
  case i32 => exact ⟨(0 : BitVec 32)⟩
  case i64 => exact ⟨(0 : BitVec 64)⟩
  case fp8e4m3 => exact ⟨(Scalar.ofBits (F := F) .fp8e4m3 0)⟩
  case fp8e5m2 => exact ⟨(Scalar.ofBits (F := F) .fp8e5m2 0)⟩
  case bf16 => exact ⟨(Scalar.ofBits (F := F) .bf16 0)⟩
  case f16 => exact ⟨(Scalar.ofBits (F := F) .f16 0)⟩
  case f32 => exact ⟨(Scalar.ofBits (F := F) .f32 0)⟩

section General
variable {sp : Space} {s : Shape} {e : EltTy} {T : Type} [Fintype T] [DecidableEq T] (c : Dev nD) (a : Memref sig .tc sp s e) (r : T → Rect s)
  (hr : ∀ t i, (r t).stride i = 1) (hd : ∀ t t', t ≠ t' → Disjoint (r t).set (r t').set)
  (hcov : (Finset.univ : Finset T).biUnion (fun t => (r t).set) = Finset.univ)
include hd hcov

/-- A buffer at some contents is the slices of a disjoint covering family at some contents, -/
theorem any_split : any (F := F) c a ⊢ (BI.bigSep Finset.univ fun t => any (F := F) c (a.slice (r t) (hr t)) : sProp 𝕄) := by
  have hp (X : s.Idx → Elt F e) (t : T) : own (F := F) c (a.slice (r t) (hr t)) fullShare (fun j => X ((r t).emb j)) ⊢ any (F := F) c (a.slice (r t) (hr t)) := by
    iintro H; iexists (fun j => X ((r t).emb j)); iexact H
  have h (X : s.Idx → Elt F e) : own (F := F) c a fullShare X ⊢ (BI.bigSep Finset.univ fun t => any (F := F) c (a.slice (r t) (hr t)) : sProp 𝕄) :=
    (owns_rects (c : Thread nD τ) a fullShare r hr hd hcov X).trans (bigSep_mono fun t _ => hp X t)
  iintro ⟨%X, H⟩
  iapply (h X)
  iexact H

/-- and back. -/
theorem any_join : (BI.bigSep Finset.univ fun t => any (F := F) c (a.slice (r t) (hr t)) : sProp 𝕄) ⊢ any (F := F) c a := by
  refine (BI.bigSep_exists_pi Finset.univ (fun t (X : (r t).shape.Idx → Elt F e) => own (F := F) c (a.slice (r t) (hr t)) fullShare X)).trans ?_
  iintro ⟨%Z, H⟩
  iexists (Rect.glue r hcov Z)
  iapply (owns_of_rects (c : Thread nD τ) a fullShare r hr hd hcov (Rect.glue r hcov Z))
  rw [BI.bigSep_congr fun t _ => congrArg (own (F := F) c (a.slice (r t) (hr t)) fullShare) (funext fun j => Rect.glue_emb r hcov hd Z t j)]
  iexact H

end General

/-! ## Slots of the rings' buffers -/

/-- The slots of a ring's buffer. -/
abbrev r4 (i : Fin 4) : Rect S4x1024x1024 :=
  Rect.unit (s := S4x1024x1024) ![i.val, 0, 0] S1x1024x1024.size (by revert i; decide +kernel)
theorem r4_disjoint (i j : Fin 4) (h : i ≠ j) : Disjoint (r4 i).set (r4 j).set := by
  refine Rect.unit_disjoint 0 ?_
  show i.val + 1 ≤ j.val ∨ j.val + 1 ≤ i.val
  have : i.val ≠ j.val := fun e => h (Fin.ext e)
  omega
theorem r4_cover : (Finset.univ : Finset (Fin 4)).biUnion (fun i => (r4 i).set) = Finset.univ := by
  ext x
  simp only [Finset.mem_biUnion, Finset.mem_univ, true_and, iff_true]
  refine ⟨x 0, Rect.mem_set_unit.mpr fun a => ?_⟩
  match a with
  | ⟨0, _⟩ => exact ⟨le_rfl, Nat.lt_succ_self _⟩
  | ⟨1, _⟩ => exact ⟨Nat.zero_le _, by have := (x 1).isLt; show (x 1).val < 0 + 1024; rw [Nat.zero_add]; exact this⟩
  | ⟨2, _⟩ => exact ⟨Nat.zero_le _, by have := (x 2).isLt; show (x 2).val < 0 + 1024; rw [Nat.zero_add]; exact this⟩

/-- A ring's buffer is its four slots, -/
theorem slots_split {e : EltTy} (c : Dev nD) (a : Memref sig .tc .vmem S4x1024x1024 e) :
    any (F := F) c a ⊢ iprop(any (F := F) c (a.slice R4_0 (fun _ => rfl)) ∗ any (F := F) c (a.slice R4_1 (fun _ => rfl))
      ∗ any (F := F) c (a.slice R4_2 (fun _ => rfl)) ∗ any (F := F) c (a.slice R4_3 (fun _ => rfl))) := by
  refine (any_split c a r4 (fun _ _ => rfl) r4_disjoint r4_cover).trans (Entails.of_eq ?_)
  rw [bigSep_univ_eq_bigSepL [0, 1, 2, 3] (by decide) (by decide), bigSepL_cons_cons, bigSepL_cons_cons, bigSepL_cons_cons, bigSepL_singleton]
  rfl
/-- and back. -/
theorem slots_join {e : EltTy} (c : Dev nD) (a : Memref sig .tc .vmem S4x1024x1024 e) :
    iprop(any (F := F) c (a.slice R4_0 (fun _ => rfl)) ∗ any (F := F) c (a.slice R4_1 (fun _ => rfl))
      ∗ any (F := F) c (a.slice R4_2 (fun _ => rfl)) ∗ any (F := F) c (a.slice R4_3 (fun _ => rfl))) ⊢ any (F := F) c a := by
  refine .trans (Entails.of_eq ?_) (any_join c a r4 (fun _ _ => rfl) r4_disjoint r4_cover)
  rw [bigSep_univ_eq_bigSepL [0, 1, 2, 3] (by decide) (by decide), bigSepL_cons_cons, bigSepL_cons_cons, bigSepL_cons_cons, bigSepL_singleton]
  rfl

/-! ## The two slots of the partial products -/

abbrev r2 (i : Fin 2) : Rect S2x1024x1024 :=
  Rect.unit (s := S2x1024x1024) ![i.val, 0, 0] S1x1024x1024.size (by revert i; decide +kernel)
theorem r2_disjoint (i j : Fin 2) (h : i ≠ j) : Disjoint (r2 i).set (r2 j).set := by
  refine Rect.unit_disjoint 0 ?_
  show i.val + 1 ≤ j.val ∨ j.val + 1 ≤ i.val
  have : i.val ≠ j.val := fun e => h (Fin.ext e)
  omega
theorem r2_cover : (Finset.univ : Finset (Fin 2)).biUnion (fun i => (r2 i).set) = Finset.univ := by
  ext x
  simp only [Finset.mem_biUnion, Finset.mem_univ, true_and, iff_true]
  refine ⟨x 0, Rect.mem_set_unit.mpr fun a => ?_⟩
  match a with
  | ⟨0, _⟩ => exact ⟨le_rfl, Nat.lt_succ_self _⟩
  | ⟨1, _⟩ => exact ⟨Nat.zero_le _, by have := (x 1).isLt; show (x 1).val < 0 + 1024; rw [Nat.zero_add]; exact this⟩
  | ⟨2, _⟩ => exact ⟨Nat.zero_le _, by have := (x 2).isLt; show (x 2).val < 0 + 1024; rw [Nat.zero_add]; exact this⟩

theorem tiles_split (c : Dev nD) : any (F := F) c mT ⊢ iprop(any (F := F) c T0 ∗ any (F := F) c T1) := by
  refine (any_split c mT r2 (fun _ _ => rfl) r2_disjoint r2_cover).trans (Entails.of_eq ?_)
  rw [bigSep_univ_eq_bigSepL [0, 1] (by decide) (by decide), bigSepL_cons_cons, bigSepL_singleton]
  rfl
theorem tiles_join (c : Dev nD) : iprop(any (F := F) c T0 ∗ any (F := F) c T1) ⊢ any (F := F) c mT := by
  refine .trans (Entails.of_eq ?_) (any_join c mT r2 (fun _ _ => rfl) r2_disjoint r2_cover)
  rw [bigSep_univ_eq_bigSepL [0, 1] (by decide) (by decide), bigSepL_cons_cons, bigSepL_singleton]
  rfl

/-! ## The block buffer, which is one slot -/

theorem r1_cover : (Finset.univ : Finset Unit).biUnion (fun _ => R1_0.set) = Finset.univ := by
  ext x
  simp only [Finset.mem_biUnion, Finset.mem_univ, true_and, iff_true]
  refine ⟨(), Rect.mem_set_unit.mpr fun a => ?_⟩
  match a with
  | ⟨0, _⟩ => exact ⟨Nat.zero_le _, by have := (x 0).isLt; show (x 0).val < 0 + 1; rw [Nat.zero_add]; exact this⟩
  | ⟨1, _⟩ => exact ⟨Nat.zero_le _, by have := (x 1).isLt; show (x 1).val < 0 + 1024; rw [Nat.zero_add]; exact this⟩
  | ⟨2, _⟩ => exact ⟨Nat.zero_le _, by have := (x 2).isLt; show (x 2).val < 0 + 1024; rw [Nat.zero_add]; exact this⟩
theorem xb_split (c : Dev nD) : any (F := F) c mXb ⊢ any (F := F) c xb := by
  refine (any_split c mXb (fun _ : Unit => R1_0) (fun _ _ => rfl) (fun _ _ h => absurd rfl h) r1_cover).trans (Entails.of_eq ?_)
  rw [bigSep_univ_eq_bigSepL [()] (by decide) (by decide), bigSepL_singleton]
  rfl
theorem xb_join (c : Dev nD) : any (F := F) c xb ⊢ any (F := F) c mXb := by
  refine .trans (Entails.of_eq ?_) (any_join c mXb (fun _ : Unit => R1_0) (fun _ _ => rfl) (fun _ _ h => absurd rfl h) r1_cover)
  rw [bigSep_univ_eq_bigSepL [()] (by decide) (by decide), bigSepL_singleton]
  rfl

/-! ## The rows of the table of maxima -/

theorem rRow_disjoint (p q : Dev nD) (h : p ≠ q) : Disjoint (rRow p).set (rRow q).set := by
  refine Rect.unit_disjoint 0 ?_
  rw [k0_off5_eq, k0_off5_eq]
  show p.val + 1 ≤ q.val ∨ q.val + 1 ≤ p.val
  have : p.val ≠ q.val := fun e => h (Fin.ext e)
  omega
theorem rRow_cover : (Finset.univ : Finset (Dev nD)).biUnion (fun p => (rRow p).set) = Finset.univ := by
  ext x
  simp only [Finset.mem_biUnion, Finset.mem_univ, true_and, iff_true]
  refine ⟨(⟨(x 0).val, (x 0).isLt⟩ : Dev nD), Rect.mem_set_unit.mpr fun a => ?_⟩
  rw [k0_off5_eq]
  match a with
  | ⟨0, _⟩ => exact ⟨le_rfl, Nat.lt_succ_self _⟩
  | ⟨1, _⟩ => exact ⟨Nat.zero_le _, by have := (x 1).isLt; show (x 1).val < 0 + 8; rw [Nat.zero_add]; exact this⟩
  | ⟨2, _⟩ => exact ⟨Nat.zero_le _, by have := (x 2).isLt; show (x 2).val < 0 + 128; rw [Nat.zero_add]; exact this⟩

/-- All devices are one and the three to its right. -/
theorem devs (c : Dev nD) (P : Dev nD → sProp 𝕄) :
    (BI.bigSep Finset.univ P : sProp 𝕄) = iprop(P c ∗ P (sh c 3) ∗ P (sh c 2) ∗ P (sh c 1)) := by
  rw [bigSep_univ_eq_bigSepL [c, sh c 3, sh c 2, sh c 1] (by revert c; decide) (by revert c; decide),
    bigSepL_cons_cons, bigSepL_cons_cons, bigSepL_cons_cons, bigSepL_singleton]
  rfl

theorem rows_split (c : Dev nD) : any (F := F) c mM ⊢ iprop(any (F := F) c (row c) ∗ any (F := F) c (row (sh c 3)) ∗ any (F := F) c (row (sh c 2))
    ∗ any (F := F) c (row (sh c 1))) :=
  (any_split c mM rRow (fun _ _ => rfl) rRow_disjoint rRow_cover).trans (Entails.of_eq (devs c _))

/-- Row `p` of the whole table is device `p`'s. -/
theorem amAll_row (p : Dev nD) : (fun j => amAll m ρ ((rRow p).emb j)) = am m ρ p := by
  funext j
  have h0 : (rRow p).emb j 0 = p := by
    refine Fin.ext ?_
    show k0_off5 p 0 + 1 * (j 0).val = p.val
    rw [k0_off5_eq]
    have : (j 0).val < 1 := (j 0).isLt
    show p.val + 1 * (j 0).val = p.val
    omega
  unfold amAll
  rw [h0]
  refine congrArg (am m ρ p) (funext fun a => ?_)
  match a with
  | ⟨0, _⟩ => refine Fin.ext ?_; have : (j 0).val < 1 := (j 0).isLt; show 0 = (j 0).val; omega
  | ⟨1, _⟩ =>
    refine Fin.ext ?_
    show k0_off5 p 1 + 1 * (j 1).val = (j 1).val
    rw [k0_off5_eq]; show 0 + 1 * (j 1).val = _; omega
  | ⟨2, _⟩ =>
    refine Fin.ext ?_
    show k0_off5 p 2 + 1 * (j 2).val = (j 2).val
    rw [k0_off5_eq]; show 0 + 1 * (j 2).val = _; omega

/-- The rows, the device's own in the three shares it sent, are the whole table. -/
theorem rows_join (c : Dev nD) :
    iprop(own c (row c) fullShare.left (am m ρ c) ∗ own c (row c) fullShare.right.left (am m ρ c) ∗ own c (row c) fullShare.right.right (am m ρ c)
      ∗ own c (row (sh c 3)) fullShare (am m ρ (sh c 3)) ∗ own c (row (sh c 2)) fullShare (am m ρ (sh c 2)) ∗ own c (row (sh c 1)) fullShare (am m ρ (sh c 1)))
      ⊢ own c mM fullShare (amAll m ρ) := by
  iintro ⟨Ha, Hb, Hc, H3, H2, H1⟩
  ihave Hr := (owns_halves (c : Thread nD τ) (row c) fullShare.right (am m ρ c)).2 $$ [Hb Hc]
  · isplitl [Hb]
    · iexact Hb
    · iexact Hc
  ihave H0 := (owns_halves (c : Thread nD τ) (row c) fullShare (am m ρ c)).2 $$ [Ha Hr]
  · isplitl [Ha]
    · iexact Ha
    · iexact Hr
  iapply (owns_of_rects (c : Thread nD τ) mM fullShare rRow (fun _ _ => rfl) rRow_disjoint rRow_cover (amAll m ρ))
  rw [BI.bigSep_congr fun p _ => congrArg (own c (row p) fullShare) (amAll_row m ρ p), devs c]
  isplitl [H0]; · iexact H0
  isplitl [H3]; · iexact H3
  isplitl [H2]; · iexact H2
  iexact H1

/-! ## The blocks of the result -/

/-- A matrix the result's shape made of its blocks: `U r` is row block `r` of its left half, `V r` of its right half. -/
def outOf {β : Type} (U V : Dev nD → S1024x1024.Idx → β) : S4096x2048.Idx → β := fun i =>
  let r : Dev nD := ⟨(i 0).val / 1024, Nat.div_lt_of_lt_mul (i 0).isLt⟩
  let j : S1024x1024.Idx := fun a => match a with
    | ⟨0, _⟩ => ⟨(i 0).val % 1024, Nat.mod_lt _ (by decide)⟩ | ⟨1, _⟩ => ⟨(i 1).val % 1024, Nat.mod_lt _ (by decide)⟩
  if (i 1).val < 1024 then U r j else V r j

/-- At row `1024 r + j 0` and column `j 1` it is `U r j`, at column `1024 + j 1` it is `V r j`. -/
theorem outOf_eq {β : Type} (U V : Dev nD → S1024x1024.Idx → β) (i : S4096x2048.Idx) (r : Dev nD) (j : S1024x1024.Idx)
    (h0 : (i 0).val = 1024 * r.val + (j 0).val) :
    ((i 1).val = (j 1).val → outOf U V i = U r j) ∧ ((i 1).val = 1024 + (j 1).val → outOf U V i = V r j) := by
  have b0 : (j 0).val < 1024 := (j 0).isLt
  have b1 : (j 1).val < 1024 := (j 1).isLt
  have hr : (⟨(i 0).val / 1024, Nat.div_lt_of_lt_mul (i 0).isLt⟩ : Dev nD) = r :=
    Fin.ext (by show (i 0).val / 1024 = _; rw [h0]; omega)
  have hj (h1 : (i 1).val % 1024 = (j 1).val) : (fun a => match a with
    | ⟨0, _⟩ => ⟨(i 0).val % 1024, Nat.mod_lt _ (by decide)⟩ | ⟨1, _⟩ => ⟨(i 1).val % 1024, Nat.mod_lt _ (by decide)⟩ : S1024x1024.Idx) = j := by
    funext a
    match a with
    | ⟨0, _⟩ => refine Fin.ext ?_; show (i 0).val % 1024 = (j 0).val; rw [h0]; omega
    | ⟨1, _⟩ => exact Fin.ext h1
  unfold outOf
  dsimp only
  rw [hr]
  exact ⟨fun h => by rw [hj (by rw [h]; omega), if_pos (by rw [h]; exact b1)],
    fun h => by rw [hj (by rw [h]; omega), if_neg (by rw [h]; omega)]⟩

theorem outOf_L {β : Type} (U V : Dev nD → S1024x1024.Idx → β) (c : Dev nD) (s : Fin 4) :
    (fun j => outOf U V ((rOL c s).emb j)) = U (sh c (5 - s.val)) := by
  funext j
  refine (outOf_eq U V _ _ j ?_).1 ?_
  · show k0_off6 c (BitVec.ofNat 32 s.val) 0 + 1 * (j 0).val = _
    rw [off6_eq, Nat.one_mul]; rfl
  · show k0_off6 c (BitVec.ofNat 32 s.val) 1 + 1 * (j 1).val = _
    rw [off6_eq, Nat.one_mul]; exact Nat.zero_add _
theorem outOf_R {β : Type} (U V : Dev nD → S1024x1024.Idx → β) (c : Dev nD) (s : Fin 4) :
    (fun j => outOf U V ((rOR c s).emb j)) = V (sh c (3 + s.val)) := by
  funext j
  refine (outOf_eq U V _ _ j ?_).2 ?_
  · show k0_off7 c (BitVec.ofNat 32 s.val) 0 + 1 * (j 0).val = _
    rw [off7_eq, Nat.one_mul]; rfl
  · show k0_off7 c (BitVec.ofNat 32 s.val) 1 + 1 * (j 1).val = _
    rw [off7_eq, Nat.one_mul]; rfl

/-- The result: in row block `r`, the left half is what the right-going ring left one device to the left, the right half
    what the left-going ring left one device to the right. -/
def outF : S4096x2048.Idx → Elt F .f32 :=
  outOf (fun r => flat (k0_pay25 (sc m ρ) (qa0 m ρ (sh r 3)))) (fun r => flat (k0_pay26 (sc m ρ) (qb0 m ρ (sh r 1))))

/-- The eight blocks device `c` writes. -/
abbrev rOut (c : Dev nD) (t : Fin 4 × Bool) : Rect S4096x2048 :=
  Rect.unit (s := S4096x2048) (bif t.2 then k0_off7 c (BitVec.ofNat 32 t.1.val) else k0_off6 c (BitVec.ofNat 32 t.1.val)) S1024x1024.size
    (by obtain ⟨s, b⟩ := t; cases b; exacts [k0_off6_inb c s, k0_off7_inb c s])

theorem sh_inj (c : Dev nD) : ∀ i j : Fin 4, i ≠ j →
    (sh c (5 - i.val)).val ≠ (sh c (5 - j.val)).val ∧ (sh c (3 + i.val)).val ≠ (sh c (3 + j.val)).val := by revert c; decide
theorem sh_surj (c : Dev nD) : ∀ r : Fin 4, (∃ i : Fin 4, (sh c (5 - i.val)).val = r.val) ∧ ∃ i : Fin 4, (sh c (3 + i.val)).val = r.val := by
  revert c; decide

theorem rOut_disjoint (c : Dev nD) (t t' : Fin 4 × Bool) (h : t ≠ t') : Disjoint (rOut c t).set (rOut c t').set := by
  obtain ⟨i, b⟩ := t
  obtain ⟨j, b'⟩ := t'
  cases b <;> cases b'
  · refine Rect.unit_disjoint 0 ?_
    have hij : i ≠ j := fun e => h (by rw [e])
    have := (sh_inj c i j hij).1
    show k0_off6 c (BitVec.ofNat 32 i.val) 0 + 1024 ≤ k0_off6 c (BitVec.ofNat 32 j.val) 0 ∨ k0_off6 c (BitVec.ofNat 32 j.val) 0 + 1024 ≤ k0_off6 c (BitVec.ofNat 32 i.val) 0
    rw [off6_eq, off6_eq]
    show 1024 * (sh c (5 - i.val)).val + 1024 ≤ 1024 * (sh c (5 - j.val)).val ∨ 1024 * (sh c (5 - j.val)).val + 1024 ≤ 1024 * (sh c (5 - i.val)).val
    omega
  · refine Rect.unit_disjoint 1 (.inl ?_)
    show k0_off6 c (BitVec.ofNat 32 i.val) 1 + 1024 ≤ k0_off7 c (BitVec.ofNat 32 j.val) 1
    rw [off6_eq, off7_eq]
    exact le_rfl
  · refine Rect.unit_disjoint 1 (.inr ?_)
    show k0_off6 c (BitVec.ofNat 32 j.val) 1 + 1024 ≤ k0_off7 c (BitVec.ofNat 32 i.val) 1
    rw [off6_eq, off7_eq]
    exact le_rfl
  · refine Rect.unit_disjoint 0 ?_
    have hij : i ≠ j := fun e => h (by rw [e])
    have := (sh_inj c i j hij).2
    show k0_off7 c (BitVec.ofNat 32 i.val) 0 + 1024 ≤ k0_off7 c (BitVec.ofNat 32 j.val) 0 ∨ k0_off7 c (BitVec.ofNat 32 j.val) 0 + 1024 ≤ k0_off7 c (BitVec.ofNat 32 i.val) 0
    rw [off7_eq, off7_eq]
    show 1024 * (sh c (3 + i.val)).val + 1024 ≤ 1024 * (sh c (3 + j.val)).val ∨ 1024 * (sh c (3 + j.val)).val + 1024 ≤ 1024 * (sh c (3 + i.val)).val
    omega

theorem rOut_cover (c : Dev nD) : (Finset.univ : Finset (Fin 4 × Bool)).biUnion (fun t => (rOut c t).set) = Finset.univ := by
  ext x
  simp only [Finset.mem_biUnion, Finset.mem_univ, true_and, iff_true]
  have b0 : (x 0).val < 4096 := (x 0).isLt
  have b1 : (x 1).val < 2048 := (x 1).isLt
  obtain ⟨⟨i, hi⟩, j, hj⟩ := sh_surj c ⟨(x 0).val / 1024, by omega⟩
  by_cases h : (x 1).val < 1024
  · refine ⟨(i, false), Rect.mem_set_unit.mpr fun a => ?_⟩
    show k0_off6 c (BitVec.ofNat 32 i.val) a ≤ (x a).val ∧ (x a).val < k0_off6 c (BitVec.ofNat 32 i.val) a + S1024x1024.size a
    rw [off6_eq, hi]
    match a with
    | ⟨0, _⟩ => show 1024 * ((x 0).val / 1024) ≤ (x 0).val ∧ (x 0).val < 1024 * ((x 0).val / 1024) + 1024; omega
    | ⟨1, _⟩ => show 0 ≤ (x 1).val ∧ (x 1).val < 0 + 1024; omega
  · refine ⟨(j, true), Rect.mem_set_unit.mpr fun a => ?_⟩
    show k0_off7 c (BitVec.ofNat 32 j.val) a ≤ (x a).val ∧ (x a).val < k0_off7 c (BitVec.ofNat 32 j.val) a + S1024x1024.size a
    rw [off7_eq, hj]
    match a with
    | ⟨0, _⟩ => show 1024 * ((x 0).val / 1024) ≤ (x 0).val ∧ (x 0).val < 1024 * ((x 0).val / 1024) + 1024; omega
    | ⟨1, _⟩ => show 1024 ≤ (x 1).val ∧ (x 1).val < 1024 + 1024; omega

theorem outs (P : Fin 4 × Bool → sProp 𝕄) :
    (BI.bigSep Finset.univ P : sProp 𝕄) = iprop(P (0, false) ∗ P (0, true) ∗ P (1, false) ∗ P (1, true) ∗ P (2, false) ∗ P (2, true) ∗ P (3, false) ∗ P (3, true)) := by
  rw [bigSep_univ_eq_bigSepL [(0, false), (0, true), (1, false), (1, true), (2, false), (2, true), (3, false), (3, true)] (by decide) (by decide),
    bigSepL_cons_cons, bigSepL_cons_cons, bigSepL_cons_cons, bigSepL_cons_cons, bigSepL_cons_cons, bigSepL_cons_cons, bigSepL_cons_cons, bigSepL_singleton]
  rfl

/-- The result's buffer is its eight blocks, -/
theorem out_split (c : Dev nD) : any (F := F) c mO ⊢ iprop(any (F := F) c (OL c 0) ∗ any (F := F) c (OR c 0) ∗ any (F := F) c (OL c 1) ∗ any (F := F) c (OR c 1)
    ∗ any (F := F) c (OL c 2) ∗ any (F := F) c (OR c 2) ∗ any (F := F) c (OL c 3) ∗ any (F := F) c (OR c 3)) :=
  (any_split c mO (rOut c) (fun _ _ => rfl) (rOut_disjoint c) (rOut_cover c)).trans (Entails.of_eq (outs _))

theorem sh_outL (c : Dev nD) : sh (sh c (5 - (0 : Fin 4).val)) 3 = c ∧ sh (sh c (5 - (1 : Fin 4).val)) 3 = sh c 3
    ∧ sh (sh c (5 - (2 : Fin 4).val)) 3 = sh c 2 ∧ sh (sh c (5 - (3 : Fin 4).val)) 3 = sh c 1 := by revert c; decide
theorem sh_outR (c : Dev nD) : sh (sh c (3 + (0 : Fin 4).val)) 1 = c ∧ sh (sh c (3 + (1 : Fin 4).val)) 1 = sh c 1
    ∧ sh (sh c (3 + (2 : Fin 4).val)) 1 = sh c 2 ∧ sh (sh c (3 + (3 : Fin 4).val)) 1 = sh c 3 := by revert c; decide

/-- and the eight blocks as the device leaves them are the result. -/
theorem out_join (c : Dev nD) :
    iprop(own c (OL c 0) fullShare (flat (k0_pay25 (sc m ρ) (qa0 m ρ c))) ∗ own c (OR c 0) fullShare (flat (k0_pay26 (sc m ρ) (qb0 m ρ c)))
      ∗ own c (OL c 1) fullShare (flat (k0_pay25 (sc m ρ) (qa0 m ρ (sh c 3)))) ∗ own c (OR c 1) fullShare (flat (k0_pay26 (sc m ρ) (qb0 m ρ (sh c 1))))
      ∗ own c (OL c 2) fullShare (flat (k0_pay25 (sc m ρ) (qa0 m ρ (sh c 2)))) ∗ own c (OR c 2) fullShare (flat (k0_pay26 (sc m ρ) (qb0 m ρ (sh c 2))))
      ∗ own c (OL c 3) fullShare (flat (k0_pay25 (sc m ρ) (qa0 m ρ (sh c 1)))) ∗ own c (OR c 3) fullShare (flat (k0_pay26 (sc m ρ) (qb0 m ρ (sh c 3)))))
      ⊢ own c mO fullShare (outF m ρ) := by
  have hL (s : Fin 4) (d : Dev nD) (h : sh (sh c (5 - s.val)) 3 = d) :
      own c (OL c s) fullShare (fun j => outF m ρ ((rOL c s).emb j)) = own c (OL c s) fullShare (flat (k0_pay25 (sc m ρ) (qa0 m ρ d))) := by
    subst h; exact congrArg (own c (OL c s) fullShare) (outOf_L _ _ c s)
  have hR (s : Fin 4) (d : Dev nD) (h : sh (sh c (3 + s.val)) 1 = d) :
      own c (OR c s) fullShare (fun j => outF m ρ ((rOR c s).emb j)) = own c (OR c s) fullShare (flat (k0_pay26 (sc m ρ) (qb0 m ρ d))) := by
    subst h; exact congrArg (own c (OR c s) fullShare) (outOf_R _ _ c s)
  refine .trans (Entails.of_eq ?_) (owns_of_rects (c : Thread nD τ) mO fullShare (rOut c) (fun _ _ => rfl) (rOut_disjoint c) (rOut_cover c) (outF m ρ))
  obtain ⟨l0, l1, l2, l3⟩ := sh_outL c
  obtain ⟨r0, r1, r2, r3⟩ := sh_outR c
  rw [outs, ← hL 0 c l0, ← hL 1 (sh c 3) l1, ← hL 2 (sh c 2) l2, ← hL 3 (sh c 1) l3,
    ← hR 0 c r0, ← hR 1 (sh c 1) r1, ← hR 2 (sh c 2) r2, ← hR 3 (sh c 3) r3]
  rfl

end Cert.KernelIdealProof

end
-- ==== Proof.KernelIdeal.Steps.lean ====
/-
# The body's steps

The rules the body's parts are executed with, each at a device `c` of the ring: loads and stores of owned pieces, the
copies of `x` in and of the result out, and the copies to the neighbours.
-/
module

public import proofs.«01_k».proof.Proof.KernelIdeal.Split

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- The body's weakest precondition on device `c`. -/
abbrev WP (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

variable {α : Type} {Q : α → sProp (MT nD τ sig Unit (Elt F) ℕ UU ℕ)} {c : Dev nD}

/-- A finished part. -/
theorem step_ret {a : α} : Q a ⊢ WP c (.ret a) Q := by
  unfold WP
  rw [wp_ret]
  iintro H
  imodintro
  iexact H

/-- A part, and what follows it. -/
theorem step_bind {β : Type} {p : Prog (TpuEff nD τ sig (Elt F) Λ₀ .tc) β} {k : β → Prog (TpuEff nD τ sig (Elt F) Λ₀ .tc) α} :
    WP c p (fun a => WP c (k a) Q) ⊢ WP c (p >>= k) Q := by
  unfold WP
  rw [wp_bind]

/-- Owning a slot with its first axis dropped is owning the slot. -/
theorem own_sq {e : EltTy} (c : Dev nD) (a : Memref sig .tc .vmem S1x1024x1024 e) (q : PosShare TreeShare) (X : S1x1024x1024.Idx → Elt F e) :
    own c (sq a) q (flat X) = own c a q X :=
  owns_squeeze (c : Thread nD τ) a q S1024x1024 squeezes_S1x1024x1024_S1024x1024 X

/-- Loading an owned piece. -/
theorem step_load {cs : CoreSpace} {s : Shape} {e : EltTy} {a : Memref sig .tc cs s e} {r : Rect s} (hr : ∀ i, r.stride i = 1)
    {hl : a.view.LoadsAt r.toLoadRect} {k : (r.shape.Idx → Elt F e) → Prog (TpuEff nD τ sig (Elt F) Λ₀ .tc) α}
    {q : PosShare TreeShare} {X : r.shape.Idx → Elt F e} :
    own c (a.slice r hr) q X ⊢ iprop((own c (a.slice r hr) q X -∗ WP c (k X) Q) -∗ WP c (.op (.load a r.toLoadRect hl) k) Q) :=
  wp_load_piece (c : Thread nD τ) 𝒱₀ none hr

/-- Overwriting an owned piece. -/
theorem step_store {cs : CoreSpace} {s : Shape} {e : EltTy} {a : Memref sig .tc cs s e} {r : Rect s} (hr : ∀ i, r.stride i = 1)
    {w : r.shape.Idx → Elt F e} {hx : (a.access r).Stores Finset.univ}
    {hm : (Finset.univ : Finset r.shape.Idx) = Finset.univ ∨ ∀ i, r.stride i = 1}
    {k : PUnit → Prog (TpuEff nD τ sig (Elt F) Λ₀ .tc) α} {X : r.shape.Idx → Elt F e} {Z : r.shape.Idx → Elt F e} (hZ : w = Z) :
    own c (a.slice r hr) fullShare X ⊢ iprop((own c (a.slice r hr) fullShare Z -∗ WP c (k ⟨⟩) Q)
      -∗ WP c (.op (.store a r w Finset.univ hx hm) k) Q) := by
  subst hZ
  exact wp_store_piece (c : Thread nD τ) 𝒱₀ none hr

/-- Loading and overwriting a device's own row of maxima. -/
theorem step_load_row {p : Dev nD} {hl : mM.view.LoadsAt (Rect.unit (s := S4x8x128) (k0_off4 p) S1x8x128.size (k0_off4_inb p)).toLoadRect}
    {k : (S1x8x128.Idx → Elt F .f32) → Prog (TpuEff nD τ sig (Elt F) Λ₀ .tc) α} {q : PosShare TreeShare} {X : S1x8x128.Idx → Elt F .f32} :
    own c (row p) q X ⊢ iprop((own c (row p) q X -∗ WP c (k X) Q)
      -∗ WP c (.op (.load mM (Rect.unit (s := S4x8x128) (k0_off4 p) S1x8x128.size (k0_off4_inb p)).toLoadRect hl) k) Q) := by
  have key (o : Fin 3 → ℕ) (ho : o = k0_off5 p) (h : ∀ a, o a + S1x8x128.size a ≤ S4x8x128.size a)
      (hl : mM.view.LoadsAt (Rect.unit (s := S4x8x128) o S1x8x128.size h).toLoadRect) :
      own c (row p) q X ⊢ iprop((own c (row p) q X -∗ WP c (k X) Q)
        -∗ WP c (.op (.load mM (Rect.unit (s := S4x8x128) o S1x8x128.size h).toLoadRect hl) k) Q) := by
    subst ho
    exact step_load (fun _ => rfl)
  exact key _ (off45_eq p) _ hl

theorem step_store_row {p : Dev nD} {w : S1x8x128.Idx → Elt F .f32}
    {hx : (mM.access (Rect.unit (s := S4x8x128) (k0_off4 p) S1x8x128.size (k0_off4_inb p))).Stores Finset.univ}
    {hm : (Finset.univ : Finset S1x8x128.Idx) = Finset.univ ∨ ∀ i, (Rect.unit (s := S4x8x128) (k0_off4 p) S1x8x128.size (k0_off4_inb p)).stride i = 1}
    {k : PUnit → Prog (TpuEff nD τ sig (Elt F) Λ₀ .tc) α} {X Z : S1x8x128.Idx → Elt F .f32} (hZ : w = Z) :
    own c (row p) fullShare X ⊢ iprop((own c (row p) fullShare Z -∗ WP c (k ⟨⟩) Q)
      -∗ WP c (.op (.store mM (Rect.unit (s := S4x8x128) (k0_off4 p) S1x8x128.size (k0_off4_inb p)) w Finset.univ hx hm) k) Q) := by
  have key (o : Fin 3 → ℕ) (ho : o = k0_off5 p) (h : ∀ a, o a + S1x8x128.size a ≤ S4x8x128.size a)
      (hx : (mM.access (Rect.unit (s := S4x8x128) o S1x8x128.size h)).Stores Finset.univ)
      (hm : (Finset.univ : Finset S1x8x128.Idx) = Finset.univ ∨ ∀ i, (Rect.unit (s := S4x8x128) o S1x8x128.size h).stride i = 1) :
      own c (row p) fullShare X ⊢ iprop((own c (row p) fullShare Z -∗ WP c (k ⟨⟩) Q)
        -∗ WP c (.op (.store mM (Rect.unit (s := S4x8x128) o S1x8x128.size h) w Finset.univ hx hm) k) Q) := by
    subst ho
    exact step_store (fun _ => rfl) hZ
  exact key _ (off45_eq p) _ hx hm

/-- Loading the left or the right half of the device's rows of `w`. -/
theorem step_wL {hl : mW.view.LoadsAt RwL.toLoadRect} {k : (S1024x1024.Idx → Elt F .f32) → Prog (TpuEff nD τ sig (Elt F) Λ₀ .tc) α} :
    own c mW fullShare (wg m ρ c) ⊢ iprop((own c mW fullShare (wg m ρ c) -∗ WP c (k (wL m ρ c)) Q)
      -∗ WP c (.op (.load mW RwL.toLoadRect hl) k) Q) :=
  wp_load_part (c : Thread nD τ) (defs := defs₀ (F := F)) 𝒱₀ none (k := k) (m := mW) (r := RwL) (q := fullShare) (X := wg m ρ c)
theorem step_wR {hl : mW.view.LoadsAt RwR.toLoadRect} {k : (S1024x1024.Idx → Elt F .f32) → Prog (TpuEff nD τ sig (Elt F) Λ₀ .tc) α} :
    own c mW fullShare (wg m ρ c) ⊢ iprop((own c mW fullShare (wg m ρ c) -∗ WP c (k (wR m ρ c)) Q)
      -∗ WP c (.op (.load mW RwR.toLoadRect hl) k) Q) :=
  wp_load_part (c : Thread nD τ) (defs := defs₀ (F := F)) 𝒱₀ none (k := k) (m := mW) (r := RwR) (q := fullShare) (X := wg m ρ c)

theorem flat_xch (c r : Dev nD) : flat (xch m c r) = fun j => xg m c ((rX r).emb j) := by
  unfold xch; exact flat_unflat _

/-- A copy of row block `r` of `x` on its way into the block buffer: it delivers the block there, and `x` back. -/
abbrev xFlight (c r : Dev nD) : sProp 𝕄 :=
  Flight EC (c : Thread nD τ) (smOf 31) () NF iprop(own c xb fullShare (xch m c r) ∗ own c mX fullShare (xg m c))

/-- Starting it. -/
theorem step_xcopy (r : Dev nD) {o : Fin 2 → ℕ} (ho : o = ![1024 * r.val, 0]) {h : ∀ a, o a + S1024x1024.size a ≤ S4096x1024.size a}
    {sm : DmaSem sig} (hs : SemLoc.dma sm = smOf 31)
    {hsrc : (mX.slice (Rect.unit (s := S4096x1024) o S1024x1024.size h) (fun _ => rfl)).view.WordExact} {hdst : (sq xb).view.WordExact}
    {hsem : DmaTarget.Typed (nD := nD) (τ := τ) .hbm (.dma sm) (.here (p := .tc) (sq xb))}
    {k : PUnit → Prog (TpuEff nD τ sig (Elt F) Λ₀ .tc) α} {Y : S1x1024x1024.Idx → Elt F .f32} :
    iprop(own c mX fullShare (xg m c) ∗ own c xb fullShare Y ∗ semVal (cellAt c 31) 0)
      ⊢ iprop((xFlight m c r -∗ WP c (k ⟨⟩) Q)
        -∗ WP c (.op (.enqueueDma (mX.slice (Rect.unit (s := S4096x1024) o S1024x1024.size h) (fun _ => rfl)) (.here (sq xb)) (.dma sm) hsrc hdst hsem) k) Q) := by
  subst ho
  have hstep := wp_copy_piece (c : Thread nD τ) (defs := defs₀ (F := F)) 𝒱₀ none (EC (F := F)) (Q := Q) (src := mX.slice (Rect.unit (s := S4096x1024) ![1024 * r.val, 0] S1024x1024.size h) (fun _ => rfl)) (dst := sq xb)
    (sm := .dma sm) (hsrc := hsrc) (hdst := hdst) (hsem := hsem) (k := k) (q := fullShare) (X := fun j => xg m c ((rX r).emb j)) (Y := flat Y)
    () NF rfl NF_pos
  iintro ⟨Hx, Hb, Hv⟩ Hk
  ihave Hx := (owns_take (c : Thread nD τ) mX fullShare (rX r) (fun _ => rfl) (xg m c)) $$ Hx
  icases Hx with ⟨Hx, Hback⟩
  iapply hstep $$ [Hx Hb Hv]
  · isplitl [Hx]; · iexact Hx
    isplitl [Hb]; · iapply (Entails.of_eq (own_sq c xb fullShare Y).symm); iexact Hb
    rw [hs]; iexact Hv
  iintro HF
  iapply Hk
  have hfr : iprop((own c (mX.slice (rX r) (fun _ => rfl)) fullShare (fun j => xg m c ((rX r).emb j)) -∗ own c mX fullShare (xg m c))
      ∗ Flight (EC (F := F)) (c : Thread nD τ) (.dma sm) () NF
        iprop(own c (sq xb) fullShare (fun j => xg m c ((rX r).emb j)) ∗ own c (mX.slice (rX r) (fun _ => rfl)) fullShare (fun j => xg m c ((rX r).emb j))))
      ⊢ xFlight m c r := by
    rw [hs]
    refine (Flight_frame (EC (F := F)) (c : Thread nD τ)).trans (Flight_mono (EC (F := F)) (c : Thread nD τ) ?_)
    iintro ⟨Hback, Hb, Hx⟩
    isplitl [Hb]
    · iapply (Entails.of_eq ((congrArg (own c (sq xb) fullShare) (flat_xch m c r).symm).trans (own_sq c xb fullShare (xch m c r))))
      iexact Hb
    · iapply Hback; iexact Hx
  iapply hfr
  isplitl [Hback]
  · iexact Hback
  · iexact HF

/-- Waiting for a copy inside the device. -/
theorem step_waitL {n w : ℕ} (k₀ : ℕ) (hk : k₀ < 42) (hlev : ∀ p ∈ pays.drop n, lvK k₀ < lvK p.k) {sp sp' : Space} {s s' : Shape} {e e' : EltTy}
    {sem : DmaSem sig} {src : Memref sig .tc sp' s' e'} {dst : Memref sig .tc sp s e} {hsrc : src.view.WordExact} {hdst : dst.view.WordExact}
    (hs : SemLoc.dma sem = smOf k₀) {N : ℕ} (hN : dst.view.dmaCredit = N) {D : sProp 𝕄}
    {k : PUnit → Prog (TpuEff nD τ sig (Elt F) Λ₀ .tc) α} :
    iprop(env m ρ K ∗ Flight EC (c : Thread nD τ) (smOf k₀) () N D ∗ st c n w)
      ⊢ iprop(((D ∗ semVal (cellAt c k₀) 0 ∗ st c n w) -∗ WP c (k ⟨⟩) Q)
        -∗ WP c (.op (.waitDma2 sem src dst hsrc hdst) k) Q) := by
  have hw (W : Waits sig Unit) := wp_waitLocalO (defs := defs₀ (F := F)) (EC (F := F)) 𝒱₀ (c : Thread nD τ) none (Q := Q) (srcw := src) (dstw := dst) (hsrc := hsrc) (hdst := hdst)
    (sem := sem) (k := k) () hN (D := D) (O := debt c n) (W := W)
  rw [hs] at hw
  have hmw : (levAts L lv : sProp 𝕄) ⊢ MayWait (c : Thread nD τ) (smOf k₀) () (debt c n) :=
    mayWait (fun p hp => by rw [kOf_smOf _ hk]; exact hlev p hp)
  unfold st
  iintro ⟨#Henv, HF, ⟨%W, HO⟩, Hl, Hw, Hz⟩ Hk
  ihave #HL := (env_lev m ρ K) $$ Henv
  iapply (hw W) $$ [HF HO]
  · isplitl [HF]; · iexact HF
    isplitl [HO]; · iexact HO
    iapply hmw; iexact HL
  iintro ⟨HD, Hv, HO⟩
  iapply Hk
  isplitl [HD]; · iexact HD
  isplitl [Hv]; · iexact Hv
  isplitl [HO]; · iexists (insert (smOf k₀, ()) W); iexact HO
  isplitl [Hl]; · iexact Hl
  isplitl [Hw] <;> iassumption

/-- The credit of one block of the result. -/
abbrev NO : ℕ := (OL 0 0).view.dmaCredit
theorem NO_pos : 0 < NO := View.dmaCredit_pos _ (by decide)

/-- A copy of a slot on its way to a block of the result: it delivers the block, and the slot back. -/
abbrev oFlight (c : Dev nD) (k : ℕ) (dst : Memref sig .tc .hbm S1024x1024 .f32) (src : Memref sig .tc .vmem S1x1024x1024 .f32)
    (X : S1x1024x1024.Idx → Elt F .f32) : sProp 𝕄 :=
  Flight EC (c : Thread nD τ) (smOf k) () NO iprop(own c dst fullShare (flat X) ∗ own c src fullShare X)

/-- Starting it. -/
theorem step_ocopy (k₀ : ℕ) {sm : DmaSem sig} (hs : SemLoc.dma sm = smOf k₀) {src : Memref sig .tc .vmem S1x1024x1024 .f32}
    {dst : Memref sig .tc .hbm S1024x1024 .f32}
    {hsrc : (sq src).view.WordExact} {hdst : dst.view.WordExact} {hsem : DmaTarget.Typed (nD := nD) (τ := τ) .vmem (.dma sm) (.here (p := .tc) dst)}
    {k : PUnit → Prog (TpuEff nD τ sig (Elt F) Λ₀ .tc) α} {X : S1x1024x1024.Idx → Elt F .f32} {Y : S1024x1024.Idx → Elt F .f32} :
    iprop(⌜dst.view.dmaCredit = NO⌝ ∗ own c src fullShare X ∗ own c dst fullShare Y ∗ semVal (cellAt c k₀) 0)
      ⊢ iprop((oFlight c k₀ dst src X -∗ WP c (k ⟨⟩) Q)
        -∗ WP c (.op (.enqueueDma (sq src) (.here dst) (.dma sm) hsrc hdst hsem) k) Q) := by
  iintro ⟨%hN, Hs, Hd, Hv⟩ Hk
  have hstep := wp_copy_piece (c : Thread nD τ) (defs := defs₀ (F := F)) 𝒱₀ none (EC (F := F)) (Q := Q) (src := sq src) (dst := dst)
    (sm := .dma sm) (hsrc := hsrc) (hdst := hdst) (hsem := hsem) (k := k) (q := fullShare) (X := flat X) (Y := Y)
    () NO hN NO_pos
  iapply hstep $$ [Hs Hd Hv]
  · isplitl [Hs]; · iapply (Entails.of_eq (own_sq c src fullShare X).symm); iexact Hs
    isplitl [Hd]; · iexact Hd
    rw [hs]; iexact Hv
  iintro HF
  iapply Hk
  unfold oFlight
  rw [← hs]
  iapply (Flight_mono (EC (F := F)) (c : Thread nD τ) (sep_mono_right (Entails.of_eq (own_sq c src fullShare X))))
  iexact HF

/-- Copying an owned slot over a slot of the device `p.j` places to the right. -/
theorem step_sendQ {c' : Dev nD} {n w : ℕ} (p : Pay) (hp : PayOk n p) (hc : c' = sh c p.j) (hk₁ : p.k₁ ≠ 0)
    (hok₁ : kk (ix p.k₁) = p.k₁ ∧ p.k₁ < 42) (hd₁ : false ∈ dutyK p.k₁)
    {e : EltTy} {src dst : Memref sig .tc .vmem S1x1024x1024 e}
    {sS sR : SemLoc sig} (hS : sS = smOf p.k₁) (hR : sR = smOf p.k)
    (hN : (sq dst).view.amount sR = amtK p.k) (ha : amtK p.k₁ = amtK p.k)
    {hsc : (sq dst : Memref sig (Dev.tc c' : Thread nD τ).2.kind .vmem S1024x1024 e).view.ref.isScScratch = false}
    {hsrc : (sq src).view.WordExact} {hdst : (sq dst).view.WordExact}
    {hsem : DmaTarget.Typed .vmem sR (.remote (Dev.tc c' : Thread nD τ) (sq dst : Memref sig (Dev.tc c' : Thread nD τ).2.kind .vmem S1024x1024 e) sS hsc)}
    {k : PUnit → Prog (TpuEff nD τ sig (Elt F) Λ₀ .tc) α} {q : PosShare TreeShare} {X Y : S1x1024x1024.Idx → Elt F e} {Fw : sProp 𝕄}
    (h₁ : own c src q X ⊢ payK m ρ c p.k₁ false)
    (h₂ : iprop(own (sh c p.j) dst fullShare X ∗ Fw) ⊢ payK m ρ (sh c p.j) p.k p.d) :
    iprop(env m ρ K ∗ own c src q X ∗ own (sh c p.j) dst fullShare Y ∗ Fw ∗ st c n w)
      ⊢ iprop(((cred (tallyAt (cellAt c p.k₁) () (amtK p.k₁)) ∗ st c (n + 1) w) -∗ WP c (k ⟨⟩) Q)
        -∗ WP c (.op (.enqueueDma (sq src) (.remote (Dev.tc c' : Thread nD τ) (sq dst) sS hsc) sR hsrc hdst hsem) k) Q) := by
  have hstep := step_send (Q := Q) m ρ K (w := w) p hp hc hk₁ hok₁ hd₁ (src := sq src) (dst := sq dst) hS hR hN ha (hsc := hsc) (hsrc := hsrc) (hdst := hdst)
    (hsem := hsem) (k := k) (q := q) (X := flat X) (Y := flat Y) (Fw := Fw)
    ((Entails.of_eq (own_sq c src q X)).trans h₁) ((sep_mono_left (Entails.of_eq (own_sq _ dst fullShare X))).trans h₂)
  rw [own_sq, own_sq] at hstep
  exact hstep

/-- Loading the whole table of maxima. -/
theorem step_load_all {hl : mM.view.LoadsAt (Rect.unit (s := S4x8x128) ![0, 0, 0] S4x8x128.size inb_S4x8x128_S4x8x128_0_0_0).toLoadRect}
    {k : (S4x8x128.Idx → Elt F .f32) → Prog (TpuEff nD τ sig (Elt F) Λ₀ .tc) α} {X : S4x8x128.Idx → Elt F .f32} :
    own c mM fullShare X ⊢ iprop((own c mM fullShare X -∗ WP c (k X) Q)
      -∗ WP c (.op (.load mM (Rect.unit (s := S4x8x128) ![0, 0, 0] S4x8x128.size inb_S4x8x128_S4x8x128_0_0_0).toLoadRect hl) k) Q) := by
  have h := wp_load_part (c : Thread nD τ) (defs := defs₀ (F := F)) 𝒱₀ none (Q := Q) (k := k) (m := mM)
    (r := Rect.unit (s := S4x8x128) ![0, 0, 0] S4x8x128.size inb_S4x8x128_S4x8x128_0_0_0) (hl := hl) (q := fullShare) (X := X)
  have e : (fun j => X ((Rect.unit (s := S4x8x128) ![0, 0, 0] S4x8x128.size inb_S4x8x128_S4x8x128_0_0_0).emb j)) = X := by
    funext j
    refine congrArg X (funext fun a => Fin.ext ?_)
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  rw [e] at h
  exact h

/-- Waiting for a copy the device sent, -/
theorem step_gotS {n w : ℕ} (k₀ : ℕ) (h : WaitOk n w k₀) (hr : isRecv k₀ = false) (hk : k₀ < 40) {sp sp' : Space} {s s' : Shape} {e e' : EltTy}
    {sem : DmaSem sig} {src : Memref sig .tc sp' s' e'} {dst : Memref sig .tc sp s e} {hsrc : src.view.WordExact} {hdst : dst.view.WordExact}
    (hs : SemLoc.dma sem = smOf k₀) {k : PUnit → Prog (TpuEff nD τ sig (Elt F) Λ₀ .tc) α} :
    iprop(env m ρ K ∗ ⌜dst.view.dmaCredit = amtK k₀⌝ ∗ cred (tallyAt (cellAt c k₀) () (amtK k₀)) ∗ st c n w)
      ⊢ iprop(((payK m ρ c k₀ false ∗ st c n (w + 1)) -∗ WP c (k ⟨⟩) Q)
        -∗ WP c (.op (.waitDma2 sem src dst hsrc hdst) k) Q) := by
  iintro ⟨#Henv, %hN, Hc, Hst⟩ Hk
  iapply (step_waitS m ρ K k₀ h hr hk hs hN) $$ [Hc Hst]
  · isplitr; · iexact Henv
    isplitl [Hc]; · iexact Hc
    iexact Hst
  iexact Hk
/-- and for a copy another device sent. -/
theorem step_gotR {n w : ℕ} (k₀ : ℕ) (h : WaitOk n w k₀) (hr : isRecv k₀ = true) (hk : k₀ < 40) {sp sp' : Space} {s s' : Shape} {e e' : EltTy}
    {sem : DmaSem sig} {src : Memref sig .tc sp' s' e'} {dst : Memref sig .tc sp s e} {hsrc : src.view.WordExact} {hdst : dst.view.WordExact}
    (hs : SemLoc.dma sem = smOf k₀) {k : PUnit → Prog (TpuEff nD τ sig (Elt F) Λ₀ .tc) α} :
    iprop(env m ρ K ∗ ⌜dst.view.dmaCredit = amtK k₀⌝ ∗ st c n w)
      ⊢ iprop(((payK m ρ c k₀ false ∗ st c n (w + 1)) -∗ WP c (k ⟨⟩) Q)
        -∗ WP c (.op (.waitDma2 sem src dst hsrc hdst) k) Q) := by
  iintro ⟨#Henv, %hN, Hst⟩ Hk
  iapply (step_waitR m ρ K k₀ h hr hk hs hN) $$ [Hst]
  · isplitr; · iexact Henv
    iexact Hst
  iexact Hk

/-! ## What the payments hand over, at the payer -/

/-- The barrier's payment to the device on the left; -/
theorem pay40t (c : Dev nD) : payK m ρ (sh c 3) 40 true = iprop(any (F := F) c A1 ∗ any (F := F) c A2 ∗ any (F := F) c A3 ∗ any (F := F) c QA1
    ∗ any (F := F) c QA2 ∗ any (F := F) c QA3 ∗ any (F := F) c (row (sh c 3)) ∗ any (F := F) c (row (sh c 2))) := by
  have h (d d' : Dev nD) (hd : sh (sh c 3) 1 = d) (hd' : sh (sh c 3) 3 = d') : payK m ρ (sh c 3) 40 true = iprop(any (F := F) d A1 ∗ any (F := F) d A2 ∗ any (F := F) d A3
      ∗ any (F := F) d QA1 ∗ any (F := F) d QA2 ∗ any (F := F) d QA3 ∗ any (F := F) d (row (sh c 3)) ∗ any (F := F) d (row d')) := by
    subst hd; subst hd'; rfl
  exact h c (sh c 2) (sh31 c) (sh33 c)
/-- to the device on the right; -/
theorem pay40f (c : Dev nD) : payK m ρ (sh c 1) 40 false = iprop(any (F := F) c B1 ∗ any (F := F) c B2 ∗ any (F := F) c B3 ∗ any (F := F) c QB1
    ∗ any (F := F) c QB2 ∗ any (F := F) c QB3 ∗ any (F := F) c (row (sh c 1))) := by
  have h (d : Dev nD) (hd : sh (sh c 1) 3 = d) : payK m ρ (sh c 1) 40 false = iprop(any (F := F) d B1 ∗ any (F := F) d B2 ∗ any (F := F) d B3
      ∗ any (F := F) d QB1 ∗ any (F := F) d QB2 ∗ any (F := F) d QB3 ∗ any (F := F) d (row (sh c 1))) := by
    subst hd; rfl
  exact h c (sh13 c)
/-- the first slot sent to the left, which carries a row of the device on the right along. -/
theorem pay10r (c : Dev nD) : payK m ρ (sh c 3) 10 false = iprop(own (sh c 3) B1 fullShare (rb0 m ρ c) ∗ any (F := F) (sh c 1) (row (sh c 3))) := by
  have h (d d' : Dev nD) (hd : sh (sh c 3) 1 = d) (hd' : sh (sh c 3) 2 = d') : payK m ρ (sh c 3) 10 false
      = iprop(own (sh c 3) B1 fullShare (rb0 m ρ d) ∗ any (F := F) d' (row (sh c 3))) := by
    subst hd; subst hd'; rfl
  exact h c (sh c 1) (sh31 c) (sh32 c)

end Cert.KernelIdealProof

end
-- ==== Proof.KernelIdeal.PartsA.lean ====
/-
# The body's parts 1 to 5

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 1: signals to both neighbours and the wait for theirs. -/
theorem part1 (c : Dev nD) {Q : _ → sProp 𝕄} :
    iprop(env m ρ K ∗ st c 0 0 ∗ any (F := F) c A1 ∗ any (F := F) c A2 ∗ any (F := F) c A3 ∗ any (F := F) c QA1 ∗ any (F := F) c QA2 ∗ any (F := F) c QA3 ∗ any (F := F) c (row (sh c 3)) ∗ any (F := F) c (row (sh c 2)) ∗ any (F := F) c B1 ∗ any (F := F) c B2 ∗ any (F := F) c B3 ∗ any (F := F) c QB1 ∗ any (F := F) c QB2 ∗ any (F := F) c QB3 ∗ any (F := F) c (row (sh c 1))
      ∗ (∀ (a1 a2 a3 : BitVec 32), (st c 2 1 ∗ any (F := F) (sh c 1) (row c) ∗ any (F := F) (sh c 3) (row c) ∗ any (F := F) (sh c 1) A1 ∗ any (F := F) (sh c 1) A2 ∗ any (F := F) (sh c 1) A3 ∗ any (F := F) (sh c 3) B1 ∗ any (F := F) (sh c 3) B2 ∗ any (F := F) (sh c 3) B3 ∗ any (F := F) (sh c 1) (row (sh c 3)) ∗ any (F := F) (sh c 1) QA1 ∗ any (F := F) (sh c 1) QA2 ∗ any (F := F) (sh c 1) QA3 ∗ any (F := F) (sh c 3) QB1 ∗ any (F := F) (sh c 3) QB2 ∗ any (F := F) (sh c 3) QB3) -∗ Q ⟨c, a1, a2, a3⟩))
      ⊢ WP (F := F) c (k0_part1 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 ) Q := by
  iintro ⟨#Henv, Hst, HA1, HA2, HA3, HQA1, HQA2, HQA3, Hr3, Hr2, HB1, HB2, HB3, HQB1, HQB2, HQB3, Hr1, Hk⟩
  rw [k0_part1_eq_skeleton]
  unfold k0_part1_skel
  simp only [semSignalWord, semWaitWord, Prog.lift, Prog.bind_op, Prog.bind_ret, Prog.pure_eq_ret, wp_deviceId]
  iapply (step_signal m ρ K (n := 0) (w := 0) ⟨3, 40, 0, true⟩ ⟨rfl, by decide, by decide⟩ (dev1_eq c) rfl rfl rfl rfl) $$ [HA1 HA2 HA3 HQA1 HQA2 HQA3 Hr3 Hr2 Hst]
  · isplitr; · iexact Henv
    isplitr [Hst]
    · iapply (Entails.of_eq (pay40t m ρ c).symm)
      isplitl [HA1]; · iexact HA1
      isplitl [HA2]; · iexact HA2
      isplitl [HA3]; · iexact HA3
      isplitl [HQA1]; · iexact HQA1
      isplitl [HQA2]; · iexact HQA2
      isplitl [HQA3]; · iexact HQA3
      isplitl [Hr3]; · iexact Hr3
      iexact Hr2
    · iexact Hst
  iintro Hst
  iapply (step_signal m ρ K (n := 1) (w := 0) ⟨1, 40, 0, false⟩ ⟨rfl, by decide, by decide⟩ (dev2_eq c) rfl rfl rfl rfl) $$ [HB1 HB2 HB3 HQB1 HQB2 HQB3 Hr1 Hst]
  · isplitr; · iexact Henv
    isplitr [Hst]
    · iapply (Entails.of_eq (pay40f m ρ c).symm)
      isplitl [HB1]; · iexact HB1
      isplitl [HB2]; · iexact HB2
      isplitl [HB3]; · iexact HB3
      isplitl [HQB1]; · iexact HQB1
      isplitl [HQB2]; · iexact HQB2
      isplitl [HQB3]; · iexact HQB3
      iexact Hr1
    · iexact Hst
  iintro Hst
  iapply (step_waitReg m ρ K (n := 2) (w := 0) 40 ⟨rfl, rfl, by decide, by decide, by decide⟩ rfl (by decide) rfl rfl) $$ [Hst]
  · isplitr; · iexact Henv
    iexact Hst
  iintro ⟨⟨Hpf, Hpt⟩, Hst⟩
  ihave Hpf := (Entails.of_eq (show payK m ρ c 40 false = iprop(any (F := F) (sh c 3) B1 ∗ any (F := F) (sh c 3) B2 ∗ any (F := F) (sh c 3) B3 ∗ any (F := F) (sh c 3) QB1 ∗ any (F := F) (sh c 3) QB2 ∗ any (F := F) (sh c 3) QB3 ∗ any (F := F) (sh c 3) (row c)) from rfl)) $$ Hpf
  icases Hpf with ⟨HnB1, HnB2, HnB3, HnQB1, HnQB2, HnQB3, Hn3r⟩
  ihave Hpt := (Entails.of_eq (show payK m ρ c 40 true = iprop(any (F := F) (sh c 1) A1 ∗ any (F := F) (sh c 1) A2 ∗ any (F := F) (sh c 1) A3 ∗ any (F := F) (sh c 1) QA1 ∗ any (F := F) (sh c 1) QA2 ∗ any (F := F) (sh c 1) QA3 ∗ any (F := F) (sh c 1) (row c) ∗ any (F := F) (sh c 1) (row (sh c 3))) from rfl)) $$ Hpt
  icases Hpt with ⟨HnA1, HnA2, HnA3, HnQA1, HnQA2, HnQA3, Hn1r, HnF⟩
  iapply step_ret
  iapply Hk
  isplitl [Hst]; · iexact Hst
  isplitl [Hn1r]; · iexact Hn1r
  isplitl [Hn3r]; · iexact Hn3r
  isplitl [HnA1]; · iexact HnA1
  isplitl [HnA2]; · iexact HnA2
  isplitl [HnA3]; · iexact HnA3
  isplitl [HnB1]; · iexact HnB1
  isplitl [HnB2]; · iexact HnB2
  isplitl [HnB3]; · iexact HnB3
  isplitl [HnF]; · iexact HnF
  isplitl [HnQA1]; · iexact HnQA1
  isplitl [HnQA2]; · iexact HnQA2
  isplitl [HnQA3]; · iexact HnQA3
  isplitl [HnQB1]; · iexact HnQB1
  isplitl [HnQB2]; · iexact HnQB2
  iexact HnQB3

/-- Part 2: the first right-going block, sent. -/
theorem part2 (c : Dev nD) (v13 : BitVec 32) {Q : _ → sProp 𝕄} :
    iprop(env m ρ K ∗ st c 2 1 ∗ any (F := F) c xb ∗ own c mX fullShare (xg m c) ∗ semVal (cellAt c 31) 0 ∗ own c mW fullShare (wg m ρ c) ∗ any (F := F) c A0 ∗ any (F := F) (sh c 1) A1
      ∗ ((st c 3 1 ∗ own c mW fullShare (wg m ρ c) ∗ own c mX fullShare (xg m c) ∗ cred (tallyAt (cellAt c 1) () (amtK 1)) ∗ semVal (cellAt c 31) 0 ∗ own c xb fullShare (xch m c c)) -∗ Q (k0_pay2 (xch m c c))))
      ⊢ WP (F := F) c (k0_part2 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, Hxb, HX, Hs31, HW, HA0, HnA1, Hk⟩
  rw [k0_part2_eq_skeleton]
  unfold k0_part2_skel
  simp only [semSignalWord, semWaitWord, Prog.lift, Prog.bind_op, Prog.bind_ret, Prog.pure_eq_ret, wp_deviceId]
  icases Hxb with ⟨%Yxb, Hxb⟩
  iapply (step_xcopy m c (off1_eq c) rfl) $$ [HX Hxb Hs31]
  · isplitl [HX]; · iexact HX
    isplitl [Hxb]; · iexact Hxb
    iexact Hs31
  iintro HFX
  iapply (step_waitL m ρ K (n := 2) (w := 1) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wL m ρ) $$ HW
  iintro HW
  icases HA0 with ⟨%YA0, HA0⟩
  iapply (step_load (fun _ => rfl)) $$ HA0
  iintro HA0
  iapply (step_store (fun _ => rfl) (Z := ra0 m ρ c) rfl) $$ HA0
  iintro HA0
  icases HnA1 with ⟨%YnA1, HnA1⟩
  iapply (step_sendQ m ρ K (n := 2) (w := 1) ⟨1, 4, 1, false⟩ ⟨rfl, by decide, by decide⟩ (dev3_eq c) (by decide) (by decide) (by decide) (src := A0) (dst := A1) rfl rfl rfl rfl (Fw := iprop(emp)) (q := fullShare) (X := ra0 m ρ c) .rfl
      (Laws.sep_emp.1.trans (Entails.of_eq (congrArg (fun p => own (sh c 1) A1 fullShare (ra0 m ρ p)) (sh13 c).symm)))) $$ [HA0 HnA1 Hst]
  · isplitr; · iexact Henv
    isplitl [HA0]; · iexact HA0
    isplitl [HnA1]; · iexact HnA1
    isplitr; · iempintro
    iexact Hst
  iintro ⟨Hcr1, Hst⟩
  iapply (step_load (fun _ => rfl)) $$ Hxb
  iintro Hxb
  iapply step_ret
  iapply Hk
  isplitl [Hst]; · iexact Hst
  isplitl [HW]; · iexact HW
  isplitl [HX]; · iexact HX
  isplitl [Hcr1]; · iexact Hcr1
  isplitl [Hs31]; · iexact Hs31
  iexact Hxb

/-- Part 3: the first left-going block, sent. -/
theorem part3 (c : Dev nD) (v2 : BitVec 32) (v24 : BitVec 32) {Q : _ → sProp 𝕄} :
    iprop(env m ρ K ∗ st c 3 1 ∗ own c mW fullShare (wg m ρ c) ∗ any (F := F) c B0 ∗ any (F := F) (sh c 3) B1 ∗ any (F := F) (sh c 1) (row (sh c 3))
      ∗ (∀ (a0 : BitVec 32), ∀ (a1 : BitVec 32), ∀ (a2 : BitVec 32), ∀ (a3 : BitVec 32), (st c 4 1 ∗ own c mW fullShare (wg m ρ c) ∗ cred (tallyAt (cellAt c 7) () (amtK 7))) -∗ Q ⟨a0, a1, a2, a3⟩))
      ⊢ WP (F := F) c (k0_part3 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24 (k0_pay2 (xch m c c))) Q := by
  iintro ⟨#Henv, Hst, HW, HB0, HnB1, HnF, Hk⟩
  rw [k0_part3_eq_skeleton]
  unfold k0_part3_skel
  simp only [semSignalWord, semWaitWord, Prog.lift, Prog.bind_op, Prog.bind_ret, Prog.pure_eq_ret, wp_deviceId]
  iapply (step_wR m ρ) $$ HW
  iintro HW
  icases HB0 with ⟨%YB0, HB0⟩
  iapply (step_load (fun _ => rfl)) $$ HB0
  iintro HB0
  iapply (step_store (fun _ => rfl) (Z := rb0 m ρ c) rfl) $$ HB0
  iintro HB0
  icases HnB1 with ⟨%YnB1, HnB1⟩
  iapply (step_sendQ m ρ K (n := 3) (w := 1) ⟨3, 10, 7, false⟩ ⟨rfl, by decide, by decide⟩ (dev4_eq c) (by decide) (by decide) (by decide) (src := B0) (dst := B1) rfl rfl rfl rfl (Fw := any (sh c 1) (row (sh c 3))) (q := fullShare) (X := rb0 m ρ c) .rfl
      (Entails.of_eq (pay10r m ρ c).symm)) $$ [HB0 HnB1 HnF Hst]
  · isplitr; · iexact Henv
    isplitl [HB0]; · iexact HB0
    isplitl [HnB1]; · iexact HnB1
    isplitl [HnF]; · iexact HnF
    iexact Hst
  iintro ⟨Hcr7, Hst⟩
  iapply step_ret
  iapply Hk
  isplitl [Hst]; · iexact Hst
  isplitl [HW]; · iexact HW
  iexact Hcr7

/-- Part 4: the next right-going partial product. -/
theorem part4 (c : Dev nD) (v84 : BitVec 32) (v86 : BitVec 32) (c4_i32_72 : BitVec 32) (c0_i32_73 : BitVec 32) {Q : _ → sProp 𝕄} :
    iprop(env m ρ K ∗ st c 4 1 ∗ own c xb fullShare (xch m c c) ∗ own c mX fullShare (xg m c) ∗ semVal (cellAt c 31) 0 ∗ own c mW fullShare (wg m ρ c) ∗ any (F := F) c T0
      ∗ ((st c 4 1 ∗ xFlight m c (sh c 1) ∗ own c T0 fullShare (pa1 m ρ c) ∗ own c mW fullShare (wg m ρ c)) -∗ Q ⟨⟩))
      ⊢ WP (F := F) c (k0_part4 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v84 v86 c4_i32_72 c0_i32_73) Q := by
  iintro ⟨#Henv, Hst, Hxb, HX, Hs31, HW, HT0, Hk⟩
  rw [k0_part4_eq_skeleton]
  unfold k0_part4_skel
  simp only [semSignalWord, semWaitWord, Prog.lift, Prog.bind_op, Prog.bind_ret, Prog.pure_eq_ret, wp_deviceId]
  iapply (step_xcopy m (sh c 3) (off2_eq0 c) rfl) $$ [HX Hxb Hs31]
  · isplitl [HX]; · iexact HX
    isplitl [Hxb]; · iexact Hxb
    iexact Hs31
  iintro HFX
  iapply (step_waitL m ρ K (n := 4) (w := 1) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wL m ρ) $$ HW
  iintro HW
  icases HT0 with ⟨%YT0, HT0⟩
  iapply (step_load (fun _ => rfl)) $$ HT0
  iintro HT0
  iapply (step_store (fun _ => rfl) (Z := pa1 m ρ c) rfl) $$ HT0
  iintro HT0
  iapply (step_xcopy m (sh c 1) (off3_eq0 c) rfl) $$ [HX Hxb Hs31]
  · isplitl [HX]; · iexact HX
    isplitl [Hxb]; · iexact Hxb
    iexact Hs31
  iintro HFX
  iapply step_ret
  iapply Hk
  isplitl [Hst]; · iexact Hst
  isplitl [HFX]; · iexact HFX
  isplitl [HT0]; · iexact HT0
  iexact HW

/-- Part 5: the next left-going partial product. -/
theorem part5 (c : Dev nD) (v13 : BitVec 32) {Q : _ → sProp 𝕄} :
    iprop(env m ρ K ∗ st c 4 1 ∗ xFlight m c (sh c 1) ∗ own c mW fullShare (wg m ρ c) ∗ any (F := F) c T1 ∗ cred (tallyAt (cellAt c 1) () (amtK 1))
      ∗ ((st c 4 2 ∗ own c A0 fullShare (ra0 m ρ c) ∗ own c T1 fullShare (pb1 m ρ c) ∗ own c mW fullShare (wg m ρ c) ∗ own c mX fullShare (xg m c) ∗ semVal (cellAt c 31) 0 ∗ own c xb fullShare (xch m c (sh c 1))) -∗ Q ⟨⟩))
      ⊢ WP (F := F) c (k0_part5 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, HFX, HW, HT1, Hcr1, Hk⟩
  rw [k0_part5_eq_skeleton]
  unfold k0_part5_skel
  simp only [semSignalWord, semWaitWord, Prog.lift, Prog.bind_op, Prog.bind_ret, Prog.pure_eq_ret, wp_deviceId]
  iapply (step_waitL m ρ K (n := 4) (w := 1) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wR m ρ) $$ HW
  iintro HW
  icases HT1 with ⟨%YT1, HT1⟩
  iapply (step_load (fun _ => rfl)) $$ HT1
  iintro HT1
  iapply (step_store (fun _ => rfl) (Z := pb1 m ρ c) rfl) $$ HT1
  iintro HT1
  iapply (step_gotS m ρ K (n := 4) (w := 1) 1 ⟨rfl, rfl, by decide, by decide, by decide⟩ rfl (by decide) rfl) $$ [Hcr1 Hst]
  · isplitr; · iexact Henv
    isplitr; · ipureintro; rfl
    isplitl [Hcr1]; · iexact Hcr1
    iexact Hst
  iintro ⟨Hp, Hst⟩
  ihave HA0 := (Entails.of_eq (show payK m ρ c 1 false = own c A0 fullShare (ra0 m ρ c) from rfl)) $$ Hp
  iapply step_ret
  iapply Hk
  isplitl [Hst]; · iexact Hst
  isplitl [HA0]; · iexact HA0
  isplitl [HT1]; · iexact HT1
  isplitl [HW]; · iexact HW
  isplitl [HX]; · iexact HX
  isplitl [Hs31]; · iexact Hs31
  iexact Hxb

end Cert.KernelIdealProof

end
-- ==== Proof.KernelIdeal.PartsB.lean ====
/-
# The body's parts 6 to 8

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 6: the second right-going sum, sent. -/
theorem part6 (c : Dev nD) (v13 : BitVec 32) {Q : _ → sProp 𝕄} :
    iprop(env m ρ K ∗ st c 4 2 ∗ own c T0 fullShare (pa1 m ρ c) ∗ any (F := F) (sh c 1) A2 ∗ cred (tallyAt (cellAt c 7) () (amtK 7))
      ∗ ((st c 5 4 ∗ own c B0 fullShare (rb0 m ρ c) ∗ own c T0 fullShare (pa1 m ρ c) ∗ cred (tallyAt (cellAt c 2) () (amtK 2))) -∗ Q ⟨⟩))
      ⊢ WP (F := F) c (k0_part6 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, HT0, HnA2, Hcr7, Hk⟩
  rw [k0_part6_eq_skeleton]
  unfold k0_part6_skel
  simp only [semSignalWord, semWaitWord, Prog.lift, Prog.bind_op, Prog.bind_ret, Prog.pure_eq_ret, wp_deviceId]
  iapply (step_gotR m ρ K (n := 4) (w := 2) 4 ⟨rfl, rfl, by decide, by decide, by decide⟩ rfl (by decide) rfl) $$ [Hst]
  · isplitr; · iexact Henv
    isplitr; · ipureintro; rfl
    iexact Hst
  iintro ⟨Hp, Hst⟩
  ihave HA1 := (Entails.of_eq (show payK m ρ c 4 false = own c A1 fullShare (ra0 m ρ (sh c 3)) from rfl)) $$ Hp
  iapply (step_load (fun _ => rfl)) $$ HA1
  iintro HA1
  iapply (step_load (fun _ => rfl)) $$ HT0
  iintro HT0
  iapply (step_load (fun _ => rfl)) $$ HA1
  iintro HA1
  iapply (step_store (fun _ => rfl) (Z := ra1 m ρ c) rfl) $$ HA1
  iintro HA1
  icases HnA2 with ⟨%YnA2, HnA2⟩
  iapply (step_sendQ m ρ K (n := 4) (w := 3) ⟨1, 5, 2, false⟩ ⟨rfl, by decide, by decide⟩ (dev5_eq c) (by decide) (by decide) (by decide) (src := A1) (dst := A2) rfl rfl rfl rfl (Fw := iprop(emp)) (q := fullShare) (X := ra1 m ρ c) .rfl
      (Laws.sep_emp.1.trans (Entails.of_eq (congrArg (fun p => own (sh c 1) A2 fullShare (ra1 m ρ p)) (sh13 c).symm)))) $$ [HA1 HnA2 Hst]
  · isplitr; · iexact Henv
    isplitl [HA1]; · iexact HA1
    isplitl [HnA2]; · iexact HnA2
    isplitr; · iempintro
    iexact Hst
  iintro ⟨Hcr2, Hst⟩
  iapply (step_gotS m ρ K (n := 5) (w := 3) 7 ⟨rfl, rfl, by decide, by decide, by decide⟩ rfl (by decide) rfl) $$ [Hcr7 Hst]
  · isplitr; · iexact Henv
    isplitr; · ipureintro; rfl
    isplitl [Hcr7]; · iexact Hcr7
    iexact Hst
  iintro ⟨Hp, Hst⟩
  ihave HB0 := (Entails.of_eq (show payK m ρ c 7 false = own c B0 fullShare (rb0 m ρ c) from rfl)) $$ Hp
  iapply step_ret
  iapply Hk
  isplitl [Hst]; · iexact Hst
  isplitl [HB0]; · iexact HB0
  isplitl [HT0]; · iexact HT0
  iexact Hcr2

/-- Part 7: the second left-going sum, sent. -/
theorem part7 (c : Dev nD) (v2 : BitVec 32) (v24 : BitVec 32) {Q : _ → sProp 𝕄} :
    iprop(env m ρ K ∗ st c 5 4 ∗ own c T1 fullShare (pb1 m ρ c) ∗ any (F := F) (sh c 3) B2
      ∗ (∀ (a0 : BitVec 32), ∀ (a1 : BitVec 32), ∀ (a2 : BitVec 32), (st c 6 5 ∗ own c T1 fullShare (pb1 m ρ c) ∗ cred (tallyAt (cellAt c 8) () (amtK 8)) ∗ any (F := F) (sh c 2) (row c)) -∗ Q ⟨a0, a1, a2⟩))
      ⊢ WP (F := F) c (k0_part7 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24) Q := by
  iintro ⟨#Henv, Hst, HT1, HnB2, Hk⟩
  rw [k0_part7_eq_skeleton]
  unfold k0_part7_skel
  simp only [semSignalWord, semWaitWord, Prog.lift, Prog.bind_op, Prog.bind_ret, Prog.pure_eq_ret, wp_deviceId]
  iapply (step_gotR m ρ K (n := 5) (w := 4) 10 ⟨rfl, rfl, by decide, by decide, by decide⟩ rfl (by decide) rfl) $$ [Hst]
  · isplitr; · iexact Henv
    isplitr; · ipureintro; rfl
    iexact Hst
  iintro ⟨Hp, Hst⟩
  ihave Hp := (Entails.of_eq (show payK m ρ c 10 false = iprop(own c B1 fullShare (rb0 m ρ (sh c 1)) ∗ any (F := F) (sh c 2) (row c)) from rfl)) $$ Hp
  icases Hp with ⟨HB1, Hn2r⟩
  iapply (step_load (fun _ => rfl)) $$ HB1
  iintro HB1
  iapply (step_load (fun _ => rfl)) $$ HT1
  iintro HT1
  iapply (step_load (fun _ => rfl)) $$ HB1
  iintro HB1
  iapply (step_store (fun _ => rfl) (Z := rb1 m ρ c) rfl) $$ HB1
  iintro HB1
  icases HnB2 with ⟨%YnB2, HnB2⟩
  iapply (step_sendQ m ρ K (n := 5) (w := 5) ⟨3, 11, 8, false⟩ ⟨rfl, by decide, by decide⟩ (dev6_eq c) (by decide) (by decide) (by decide) (src := B1) (dst := B2) rfl rfl rfl rfl (Fw := iprop(emp)) (q := fullShare) (X := rb1 m ρ c) .rfl
      (Laws.sep_emp.1.trans (Entails.of_eq (congrArg (fun p => own (sh c 3) B2 fullShare (rb1 m ρ p)) (sh31 c).symm)))) $$ [HB1 HnB2 Hst]
  · isplitr; · iexact Henv
    isplitl [HB1]; · iexact HB1
    isplitl [HnB2]; · iexact HnB2
    isplitr; · iempintro
    iexact Hst
  iintro ⟨Hcr8, Hst⟩
  iapply step_ret
  iapply Hk
  isplitl [Hst]; · iexact Hst
  isplitl [HT1]; · iexact HT1
  isplitl [Hcr8]; · iexact Hcr8
  iexact Hn2r

/-- Part 8: the third right-going partial product. -/
theorem part8 (c : Dev nD) (v192 : BitVec 32) (c4_i32_191 : BitVec 32) (c0_i32_192 : BitVec 32) {Q : _ → sProp 𝕄} :
    iprop(env m ρ K ∗ st c 6 5 ∗ own c xb fullShare (xch m c (sh c 1)) ∗ own c mX fullShare (xg m c) ∗ semVal (cellAt c 31) 0 ∗ own c mW fullShare (wg m ρ c) ∗ own c T0 fullShare (pa1 m ρ c)
      ∗ ((st c 6 5 ∗ own c T0 fullShare (pa2 m ρ c) ∗ own c mW fullShare (wg m ρ c) ∗ own c mX fullShare (xg m c) ∗ semVal (cellAt c 31) 0 ∗ own c xb fullShare (xch m c (sh c 2))) -∗ Q ⟨(k0_pay9 (xch m c (sh c 2))), (k0_pay10 (wR m ρ c)), (constant S1024x1024 .f32 0x00000000#32)⟩))
      ⊢ WP (F := F) c (k0_part8 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v192 c4_i32_191 c0_i32_192) Q := by
  iintro ⟨#Henv, Hst, Hxb, HX, Hs31, HW, HT0, Hk⟩
  rw [k0_part8_eq_skeleton]
  unfold k0_part8_skel
  simp only [semSignalWord, semWaitWord, Prog.lift, Prog.bind_op, Prog.bind_ret, Prog.pure_eq_ret, wp_deviceId]
  iapply (step_xcopy m (sh c 2) (off2_eq1 c) rfl) $$ [HX Hxb Hs31]
  · isplitl [HX]; · iexact HX
    isplitl [Hxb]; · iexact Hxb
    iexact Hs31
  iintro HFX
  iapply (step_waitL m ρ K (n := 6) (w := 5) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wL m ρ) $$ HW
  iintro HW
  iapply (step_load (fun _ => rfl)) $$ HT0
  iintro HT0
  iapply (step_store (fun _ => rfl) (Z := pa2 m ρ c) rfl) $$ HT0
  iintro HT0
  iapply (step_load (fun _ => rfl)) $$ Hxb
  iintro Hxb
  iapply (step_wR m ρ) $$ HW
  iintro HW
  iapply step_ret
  iapply Hk
  isplitl [Hst]; · iexact Hst
  isplitl [HT0]; · iexact HT0
  isplitl [HW]; · iexact HW
  isplitl [HX]; · iexact HX
  isplitl [Hs31]; · iexact Hs31
  iexact Hxb

end Cert.KernelIdealProof

end
-- ==== Proof.KernelIdeal.PartsC.lean ====
/-
# The body's parts 9 to 11

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 9: the third left-going partial product, and the block that arrives. -/
theorem part9 (c : Dev nD) (v13 : BitVec 32) {Q : _ → sProp 𝕄} :
    iprop(env m ρ K ∗ st c 6 5 ∗ own c T1 fullShare (pb1 m ρ c) ∗ cred (tallyAt (cellAt c 2) () (amtK 2)) ∗ own c T0 fullShare (pa2 m ρ c)
      ∗ ((st c 6 7 ∗ own c A1 fullShare (ra1 m ρ c) ∗ own c A2 fullShare (ra1 m ρ (sh c 3)) ∗ own c T0 fullShare (pa2 m ρ c) ∗ own c T1 fullShare (pb2 m ρ c)) -∗ Q (k0_pay12 (ra1 m ρ (sh c 3)) (pa2 m ρ c))))
      ⊢ WP (F := F) c (k0_part9 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 v13 (k0_pay9 (xch m c (sh c 2))) (k0_pay10 (wR m ρ c)) (constant S1024x1024 .f32 0x00000000#32)) Q := by
  iintro ⟨#Henv, Hst, HT1, Hcr2, HT0, Hk⟩
  rw [k0_part9_eq_skeleton]
  unfold k0_part9_skel
  simp only [semSignalWord, semWaitWord, Prog.lift, Prog.bind_op, Prog.bind_ret, Prog.pure_eq_ret, wp_deviceId]
  iapply (step_load (fun _ => rfl)) $$ HT1
  iintro HT1
  iapply (step_store (fun _ => rfl) (Z := pb2 m ρ c) rfl) $$ HT1
  iintro HT1
  iapply (step_gotS m ρ K (n := 6) (w := 5) 2 ⟨rfl, rfl, by decide, by decide, by decide⟩ rfl (by decide) rfl) $$ [Hcr2 Hst]
  · isplitr; · iexact Henv
    isplitr; · ipureintro; rfl
    isplitl [Hcr2]; · iexact Hcr2
    iexact Hst
  iintro ⟨Hp, Hst⟩
  ihave HA1 := (Entails.of_eq (show payK m ρ c 2 false = own c A1 fullShare (ra1 m ρ c) from rfl)) $$ Hp
  iapply (step_gotR m ρ K (n := 6) (w := 6) 5 ⟨rfl, rfl, by decide, by decide, by decide⟩ rfl (by decide) rfl) $$ [Hst]
  · isplitr; · iexact Henv
    isplitr; · ipureintro; rfl
    iexact Hst
  iintro ⟨Hp, Hst⟩
  ihave HA2 := (Entails.of_eq (show payK m ρ c 5 false = own c A2 fullShare (ra1 m ρ (sh c 3)) from rfl)) $$ Hp
  iapply (step_load (fun _ => rfl)) $$ HA2
  iintro HA2
  iapply (step_load (fun _ => rfl)) $$ HT0
  iintro HT0
  iapply (step_load (fun _ => rfl)) $$ HA2
  iintro HA2
  iapply step_ret
  iapply Hk
  isplitl [Hst]; · iexact Hst
  isplitl [HA1]; · iexact HA1
  isplitl [HA2]; · iexact HA2
  isplitl [HT0]; · iexact HT0
  iexact HT1

/-- Part 10: the third right-going sum, sent. -/
theorem part10 (c : Dev nD) (v13 : BitVec 32) (v24 : BitVec 32) {Q : _ → sProp 𝕄} :
    iprop(env m ρ K ∗ st c 6 7 ∗ own c A2 fullShare (ra1 m ρ (sh c 3)) ∗ any (F := F) (sh c 1) A3 ∗ cred (tallyAt (cellAt c 8) () (amtK 8))
      ∗ ((st c 7 9 ∗ own c B1 fullShare (rb1 m ρ c) ∗ own c B2 fullShare (rb1 m ρ (sh c 1)) ∗ cred (tallyAt (cellAt c 3) () (amtK 3))) -∗ Q ⟨⟩))
      ⊢ WP (F := F) c (k0_part10 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13 v24 (k0_pay12 (ra1 m ρ (sh c 3)) (pa2 m ρ c))) Q := by
  iintro ⟨#Henv, Hst, HA2, HnA3, Hcr8, Hk⟩
  rw [k0_part10_eq_skeleton]
  unfold k0_part10_skel
  simp only [semSignalWord, semWaitWord, Prog.lift, Prog.bind_op, Prog.bind_ret, Prog.pure_eq_ret, wp_deviceId]
  iapply (step_store (fun _ => rfl) (Z := ra2 m ρ c) rfl) $$ HA2
  iintro HA2
  icases HnA3 with ⟨%YnA3, HnA3⟩
  iapply (step_sendQ m ρ K (n := 6) (w := 7) ⟨1, 6, 3, false⟩ ⟨rfl, by decide, by decide⟩ (dev7_eq c) (by decide) (by decide) (by decide) (src := A2) (dst := A3) rfl rfl rfl rfl (Fw := iprop(emp)) (q := fullShare) (X := ra2 m ρ c) .rfl
      (Laws.sep_emp.1.trans (Entails.of_eq (congrArg (fun p => own (sh c 1) A3 fullShare (ra2 m ρ p)) (sh13 c).symm)))) $$ [HA2 HnA3 Hst]
  · isplitr; · iexact Henv
    isplitl [HA2]; · iexact HA2
    isplitl [HnA3]; · iexact HnA3
    isplitr; · iempintro
    iexact Hst
  iintro ⟨Hcr3, Hst⟩
  iapply (step_gotS m ρ K (n := 7) (w := 7) 8 ⟨rfl, rfl, by decide, by decide, by decide⟩ rfl (by decide) rfl) $$ [Hcr8 Hst]
  · isplitr; · iexact Henv
    isplitr; · ipureintro; rfl
    isplitl [Hcr8]; · iexact Hcr8
    iexact Hst
  iintro ⟨Hp, Hst⟩
  ihave HB1 := (Entails.of_eq (show payK m ρ c 8 false = own c B1 fullShare (rb1 m ρ c) from rfl)) $$ Hp
  iapply (step_gotR m ρ K (n := 7) (w := 8) 11 ⟨rfl, rfl, by decide, by decide, by decide⟩ rfl (by decide) rfl) $$ [Hst]
  · isplitr; · iexact Henv
    isplitr; · ipureintro; rfl
    iexact Hst
  iintro ⟨Hp, Hst⟩
  ihave HB2 := (Entails.of_eq (show payK m ρ c 11 false = own c B2 fullShare (rb1 m ρ (sh c 1)) from rfl)) $$ Hp
  iapply step_ret
  iapply Hk
  isplitl [Hst]; · iexact Hst
  isplitl [HB1]; · iexact HB1
  isplitl [HB2]; · iexact HB2
  iexact Hcr3

/-- Part 11: the third left-going sum, sent. -/
theorem part11 (c : Dev nD) (v2 : BitVec 32) (v24 : BitVec 32) {Q : _ → sProp 𝕄} :
    iprop(env m ρ K ∗ st c 7 9 ∗ own c B2 fullShare (rb1 m ρ (sh c 1)) ∗ own c T1 fullShare (pb2 m ρ c) ∗ any (F := F) (sh c 3) B3
      ∗ (∀ (a0 : BitVec 32), ∀ (a1 : BitVec 32), (st c 8 9 ∗ own c T1 fullShare (pb2 m ρ c) ∗ cred (tallyAt (cellAt c 9) () (amtK 9))) -∗ Q ⟨a0, a1⟩))
      ⊢ WP (F := F) c (k0_part11 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24) Q := by
  iintro ⟨#Henv, Hst, HB2, HT1, HnB3, Hk⟩
  rw [k0_part11_eq_skeleton]
  unfold k0_part11_skel
  simp only [semSignalWord, semWaitWord, Prog.lift, Prog.bind_op, Prog.bind_ret, Prog.pure_eq_ret, wp_deviceId]
  iapply (step_load (fun _ => rfl)) $$ HB2
  iintro HB2
  iapply (step_load (fun _ => rfl)) $$ HT1
  iintro HT1
  iapply (step_load (fun _ => rfl)) $$ HB2
  iintro HB2
  iapply (step_store (fun _ => rfl) (Z := rb2 m ρ c) rfl) $$ HB2
  iintro HB2
  icases HnB3 with ⟨%YnB3, HnB3⟩
  iapply (step_sendQ m ρ K (n := 7) (w := 9) ⟨3, 12, 9, false⟩ ⟨rfl, by decide, by decide⟩ (dev8_eq c) (by decide) (by decide) (by decide) (src := B2) (dst := B3) rfl rfl rfl rfl (Fw := iprop(emp)) (q := fullShare) (X := rb2 m ρ c) .rfl
      (Laws.sep_emp.1.trans (Entails.of_eq (congrArg (fun p => own (sh c 3) B3 fullShare (rb2 m ρ p)) (sh31 c).symm)))) $$ [HB2 HnB3 Hst]
  · isplitr; · iexact Henv
    isplitl [HB2]; · iexact HB2
    isplitl [HnB3]; · iexact HnB3
    isplitr; · iempintro
    iexact Hst
  iintro ⟨Hcr9, Hst⟩
  iapply step_ret
  iapply Hk
  isplitl [Hst]; · iexact Hst
  isplitl [HT1]; · iexact HT1
  iexact Hcr9

end Cert.KernelIdealProof

end
-- ==== Proof.KernelIdeal.PartsD.lean ====
/-
# The body's parts 12 to 15

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 12: the last right-going partial product. -/
theorem part12 (c : Dev nD) (v301 : BitVec 32) (v303 : BitVec 32) {Q : _ → sProp 𝕄} :
    iprop(env m ρ K ∗ st c 8 9 ∗ own c xb fullShare (xch m c (sh c 2)) ∗ own c mX fullShare (xg m c) ∗ semVal (cellAt c 31) 0 ∗ own c mW fullShare (wg m ρ c) ∗ own c T0 fullShare (pa2 m ρ c)
      ∗ ((st c 8 9 ∗ own c T0 fullShare (pa3 m ρ c) ∗ own c mW fullShare (wg m ρ c) ∗ own c mX fullShare (xg m c) ∗ semVal (cellAt c 31) 0 ∗ own c xb fullShare (xch m c (sh c 1))) -∗ Q ⟨⟩))
      ⊢ WP (F := F) c (k0_part12 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v301 v303) Q := by
  iintro ⟨#Henv, Hst, Hxb, HX, Hs31, HW, HT0, Hk⟩
  rw [k0_part12_eq_skeleton]
  unfold k0_part12_skel
  simp only [semSignalWord, semWaitWord, Prog.lift, Prog.bind_op, Prog.bind_ret, Prog.pure_eq_ret, wp_deviceId]
  iapply (step_xcopy m (sh c 1) (off2_eq2 c) rfl) $$ [HX Hxb Hs31]
  · isplitl [HX]; · iexact HX
    isplitl [Hxb]; · iexact Hxb
    iexact Hs31
  iintro HFX
  iapply (step_waitL m ρ K (n := 8) (w := 9) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wL m ρ) $$ HW
  iintro HW
  iapply (step_load (fun _ => rfl)) $$ HT0
  iintro HT0
  iapply (step_store (fun _ => rfl) (Z := pa3 m ρ c) rfl) $$ HT0
  iintro HT0
  iapply step_ret
  iapply Hk
  isplitl [Hst]; · iexact Hst
  isplitl [HT0]; · iexact HT0
  isplitl [HW]; · iexact HW
  isplitl [HX]; · iexact HX
  isplitl [Hs31]; · iexact Hs31
  iexact Hxb

/-- Part 13: the last left-going partial product. -/
theorem part13 (c : Dev nD) (v13 : BitVec 32) {Q : _ → sProp 𝕄} :
    iprop(env m ρ K ∗ st c 8 9 ∗ own c xb fullShare (xch m c (sh c 1)) ∗ own c mX fullShare (xg m c) ∗ semVal (cellAt c 31) 0 ∗ own c mW fullShare (wg m ρ c) ∗ own c T1 fullShare (pb2 m ρ c) ∗ cred (tallyAt (cellAt c 3) () (amtK 3))
      ∗ ((st c 8 10 ∗ own c A2 fullShare (ra2 m ρ c) ∗ own c T1 fullShare (pb3 m ρ c) ∗ own c mW fullShare (wg m ρ c) ∗ own c mX fullShare (xg m c) ∗ semVal (cellAt c 31) 0 ∗ own c xb fullShare (xch m c (sh c 3))) -∗ Q ⟨⟩))
      ⊢ WP (F := F) c (k0_part13 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, Hxb, HX, Hs31, HW, HT1, Hcr3, Hk⟩
  rw [k0_part13_eq_skeleton]
  unfold k0_part13_skel
  simp only [semSignalWord, semWaitWord, Prog.lift, Prog.bind_op, Prog.bind_ret, Prog.pure_eq_ret, wp_deviceId]
  iapply (step_xcopy m (sh c 3) (off3_eq2 c) rfl) $$ [HX Hxb Hs31]
  · isplitl [HX]; · iexact HX
    isplitl [Hxb]; · iexact Hxb
    iexact Hs31
  iintro HFX
  iapply (step_waitL m ρ K (n := 8) (w := 9) 31 (by decide) (by decide) rfl rfl) $$ [HFX Hst]
  · isplitr; · iexact Henv
    isplitl [HFX]; · iexact HFX
    iexact Hst
  iintro ⟨⟨Hxb, HX⟩, Hs31, Hst⟩
  iapply (step_load (fun _ => rfl)) $$ Hxb
  iintro Hxb
  iapply (step_wR m ρ) $$ HW
  iintro HW
  iapply (step_load (fun _ => rfl)) $$ HT1
  iintro HT1
  iapply (step_store (fun _ => rfl) (Z := pb3 m ρ c) rfl) $$ HT1
  iintro HT1
  iapply (step_gotS m ρ K (n := 8) (w := 9) 3 ⟨rfl, rfl, by decide, by decide, by decide⟩ rfl (by decide) rfl) $$ [Hcr3 Hst]
  · isplitr; · iexact Henv
    isplitr; · ipureintro; rfl
    isplitl [Hcr3]; · iexact Hcr3
    iexact Hst
  iintro ⟨Hp, Hst⟩
  ihave HA2 := (Entails.of_eq (show payK m ρ c 3 false = own c A2 fullShare (ra2 m ρ c) from rfl)) $$ Hp
  iapply step_ret
  iapply Hk
  isplitl [Hst]; · iexact Hst
  isplitl [HA2]; · iexact HA2
  isplitl [HT1]; · iexact HT1
  isplitl [HW]; · iexact HW
  isplitl [HX]; · iexact HX
  isplitl [Hs31]; · iexact Hs31
  iexact Hxb

/-- Part 14: the last right-going sum. -/
theorem part14 (c : Dev nD) (v24 : BitVec 32) {Q : _ → sProp 𝕄} :
    iprop(env m ρ K ∗ st c 8 10 ∗ own c T0 fullShare (pa3 m ρ c) ∗ cred (tallyAt (cellAt c 9) () (amtK 9))
      ∗ ((st c 8 13 ∗ own c A3 fullShare (ra3 m ρ c) ∗ own c B2 fullShare (rb2 m ρ c) ∗ own c B3 fullShare (rb2 m ρ (sh c 1)) ∗ own c T0 fullShare (pa3 m ρ c)) -∗ Q ⟨⟩))
      ⊢ WP (F := F) c (k0_part14 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 v24) Q := by
  iintro ⟨#Henv, Hst, HT0, Hcr9, Hk⟩
  rw [k0_part14_eq_skeleton]
  unfold k0_part14_skel
  simp only [semSignalWord, semWaitWord, Prog.lift, Prog.bind_op, Prog.bind_ret, Prog.pure_eq_ret, wp_deviceId]
  iapply (step_gotR m ρ K (n := 8) (w := 10) 6 ⟨rfl, rfl, by decide, by decide, by decide⟩ rfl (by decide) rfl) $$ [Hst]
  · isplitr; · iexact Henv
    isplitr; · ipureintro; rfl
    iexact Hst
  iintro ⟨Hp, Hst⟩
  ihave HA3 := (Entails.of_eq (show payK m ρ c 6 false = own c A3 fullShare (ra2 m ρ (sh c 3)) from rfl)) $$ Hp
  iapply (step_load (fun _ => rfl)) $$ HA3
  iintro HA3
  iapply (step_load (fun _ => rfl)) $$ HT0
  iintro HT0
  iapply (step_load (fun _ => rfl)) $$ HA3
  iintro HA3
  iapply (step_store (fun _ => rfl) (Z := ra3 m ρ c) rfl) $$ HA3
  iintro HA3
  iapply (step_gotS m ρ K (n := 8) (w := 11) 9 ⟨rfl, rfl, by decide, by decide, by decide⟩ rfl (by decide) rfl) $$ [Hcr9 Hst]
  · isplitr; · iexact Henv
    isplitr; · ipureintro; rfl
    isplitl [Hcr9]; · iexact Hcr9
    iexact Hst
  iintro ⟨Hp, Hst⟩
  ihave HB2 := (Entails.of_eq (show payK m ρ c 9 false = own c B2 fullShare (rb2 m ρ c) from rfl)) $$ Hp
  iapply (step_gotR m ρ K (n := 8) (w := 12) 12 ⟨rfl, rfl, by decide, by decide, by decide⟩ rfl (by decide) rfl) $$ [Hst]
  · isplitr; · iexact Henv
    isplitr; · ipureintro; rfl
    iexact Hst
  iintro ⟨Hp, Hst⟩
  ihave HB3 := (Entails.of_eq (show payK m ρ c 12 false = own c B3 fullShare (rb2 m ρ (sh c 1)) from rfl)) $$ Hp
  iapply step_ret
  iapply Hk
  isplitl [Hst]; · iexact Hst
  isplitl [HA3]; · iexact HA3
  isplitl [HB2]; · iexact HB2
  isplitl [HB3]; · iexact HB3
  iexact HT0

/-- Part 15: the last left-going sum, and the device's maximum. -/
theorem part15 (c : Dev nD) (v2 : BitVec 32) {Q : _ → sProp 𝕄} :
    iprop(env m ρ K ∗ st c 8 13 ∗ own c B3 fullShare (rb2 m ρ (sh c 1)) ∗ own c T1 fullShare (pb3 m ρ c) ∗ own c A3 fullShare (ra3 m ρ c) ∗ any (F := F) c (row c)
      ∗ (∀ (a0 : BitVec 32), ∀ (a1 : BitVec 32), ∀ (a2 : BitVec 1), ∀ (a3 : BitVec 32), (st c 8 13 ∗ own c A3 fullShare (ra3 m ρ c) ∗ own c B3 fullShare (rb3 m ρ c) ∗ own c T1 fullShare (pb3 m ρ c) ∗ own c (row c) fullShare (am m ρ c)) -∗ Q ⟨a0, a1, a2, a3⟩))
      ⊢ WP (F := F) c (k0_part15 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2) Q := by
  iintro ⟨#Henv, Hst, HB3, HT1, HA3, Hr0, Hk⟩
  rw [k0_part15_eq_skeleton]
  unfold k0_part15_skel
  simp only [semSignalWord, semWaitWord, Prog.lift, Prog.bind_op, Prog.bind_ret, Prog.pure_eq_ret, wp_deviceId]
  iapply (step_load (fun _ => rfl)) $$ HB3
  iintro HB3
  iapply (step_load (fun _ => rfl)) $$ HT1
  iintro HT1
  iapply (step_load (fun _ => rfl)) $$ HB3
  iintro HB3
  iapply (step_store (fun _ => rfl) (Z := rb3 m ρ c) rfl) $$ HB3
  iintro HB3
  iapply (step_load (fun _ => rfl)) $$ HA3
  iintro HA3
  iapply (step_load (fun _ => rfl)) $$ HB3
  iintro HB3
  icases Hr0 with ⟨%Yr0, Hr0⟩
  iapply (step_load_row (F := F)) $$ Hr0
  iintro Hr0
  iapply (step_store_row (Z := am m ρ c) rfl) $$ Hr0
  iintro Hr0
  iapply step_ret
  iapply Hk
  isplitl [Hst]; · iexact Hst
  isplitl [HA3]; · iexact HA3
  isplitl [HB3]; · iexact HB3
  isplitl [HT1]; · iexact HT1
  iexact Hr0

end Cert.KernelIdealProof

end
-- ==== Proof.KernelIdeal.PartsE.lean ====
/-
# The body's parts 16 to 19

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 16: the maximum sent one and two devices to the right. -/
theorem part16 (c : Dev nD) (v2 : BitVec 32) (v412 : BitVec 32) (v413 : BitVec 32) (v414 : BitVec 1) (c0_i32_422 : BitVec 32) {Q : _ → sProp 𝕄} :
    iprop(env m ρ K ∗ st c 8 13 ∗ own c (row c) fullShare (am m ρ c) ∗ any (F := F) (sh c 1) (row c) ∗ any (F := F) (sh c 2) (row c)
      ∗ (∀ (a0 : BitVec 32), ∀ (a1 : BitVec 32), ∀ (a2 : BitVec 32), (st c 10 13 ∗ cred (tallyAt (cellAt c 25) () (amtK 25)) ∗ cred (tallyAt (cellAt c 26) () (amtK 26)) ∗ own c (row c) fullShare.right.right (am m ρ c)) -∗ Q ⟨a0, a1, a2⟩))
      ⊢ WP (F := F) c (k0_part16 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v412 v413 v414 c0_i32_422) Q := by
  iintro ⟨#Henv, Hst, Hr0, Hn1r, Hn2r, Hk⟩
  rw [k0_part16_eq_skeleton]
  unfold k0_part16_skel
  simp only [semSignalWord, semWaitWord, Prog.lift, Prog.bind_op, Prog.bind_ret, Prog.pure_eq_ret, wp_deviceId]
  icases (owns_halves (c : Thread nD τ) (row c) fullShare (am m ρ c)).1 $$ Hr0 with ⟨Hr0, Hrb⟩
  icases Hn1r with ⟨%Yn1r, Hn1r⟩
  iapply (step_send m ρ K (n := 8) (w := 13) ⟨1, 28, 25, false⟩ ⟨rfl, by decide, by decide⟩ (dev9_eq c) (by decide) (by decide) (by decide) (src := (row c)) (dst := (row c)) rfl rfl rfl rfl (Fw := iprop(emp)) (q := fullShare.left) (X := am m ρ c) .rfl
      (Laws.sep_emp.1.trans (Entails.of_eq (congrArg (fun p => own (F := F) (sh c 1) (row p) fullShare (am m ρ p)) (sh13 c).symm)))) $$ [Hr0 Hn1r Hst]
  · isplitr; · iexact Henv
    isplitl [Hr0]; · iexact Hr0
    isplitl [Hn1r]; · iexact Hn1r
    isplitr; · iempintro
    iexact Hst
  iintro ⟨Hcr25, Hst⟩
  icases (owns_halves (c : Thread nD τ) (row c) fullShare.right (am m ρ c)).1 $$ Hrb with ⟨Hrb, Hrc⟩
  icases Hn2r with ⟨%Yn2r, Hn2r⟩
  iapply (step_send m ρ K (n := 9) (w := 13) ⟨2, 29, 26, false⟩ ⟨rfl, by decide, by decide⟩ (dev10_eq c) (by decide) (by decide) (by decide) (src := (row c)) (dst := (row c)) rfl rfl rfl rfl (Fw := iprop(emp)) (q := fullShare.right.left) (X := am m ρ c) .rfl
      (Laws.sep_emp.1.trans (Entails.of_eq (congrArg (fun p => own (F := F) (sh c 2) (row p) fullShare (am m ρ p)) (sh22 c).symm)))) $$ [Hrb Hn2r Hst]
  · isplitr; · iexact Henv
    isplitl [Hrb]; · iexact Hrb
    isplitl [Hn2r]; · iexact Hn2r
    isplitr; · iempintro
    iexact Hst
  iintro ⟨Hcr26, Hst⟩
  iapply step_ret
  iapply Hk
  isplitl [Hst]; · iexact Hst
  isplitl [Hcr25]; · iexact Hcr25
  isplitl [Hcr26]; · iexact Hcr26
  iexact Hrc

/-- Part 17: the maximum sent three devices to the right. -/
theorem part17 (c : Dev nD) (v2 : BitVec 32) (v420 : BitVec 32) (c3_i32_447 : BitVec 32) {Q : _ → sProp 𝕄} :
    iprop(env m ρ K ∗ st c 10 13 ∗ own c (row c) fullShare.right.right (am m ρ c) ∗ any (F := F) (sh c 3) (row c) ∗ cred (tallyAt (cellAt c 25) () (amtK 25))
      ∗ (∀ (a0 : BitVec 32), (st c 11 14 ∗ cred (tallyAt (cellAt c 27) () (amtK 27)) ∗ own c (row c) fullShare.left (am m ρ c)) -∗ Q a0))
      ⊢ WP (F := F) c (k0_part17 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v420 c3_i32_447) Q := by
  iintro ⟨#Henv, Hst, Hrc, Hn3r, Hcr25, Hk⟩
  rw [k0_part17_eq_skeleton]
  unfold k0_part17_skel
  simp only [semSignalWord, semWaitWord, Prog.lift, Prog.bind_op, Prog.bind_ret, Prog.pure_eq_ret, wp_deviceId]
  icases Hn3r with ⟨%Yn3r, Hn3r⟩
  iapply (step_send m ρ K (n := 10) (w := 13) ⟨3, 30, 27, false⟩ ⟨rfl, by decide, by decide⟩ (dev11_eq c) (by decide) (by decide) (by decide) (src := (row c)) (dst := (row c)) rfl rfl rfl rfl (Fw := iprop(emp)) (q := fullShare.right.right) (X := am m ρ c) .rfl
      (Laws.sep_emp.1.trans (Entails.of_eq (congrArg (fun p => own (F := F) (sh c 3) (row p) fullShare (am m ρ p)) (sh31 c).symm)))) $$ [Hrc Hn3r Hst]
  · isplitr; · iexact Henv
    isplitl [Hrc]; · iexact Hrc
    isplitl [Hn3r]; · iexact Hn3r
    isplitr; · iempintro
    iexact Hst
  iintro ⟨Hcr27, Hst⟩
  iapply (step_gotS m ρ K (n := 11) (w := 13) 25 ⟨rfl, rfl, by decide, by decide, by decide⟩ rfl (by decide) rfl) $$ [Hcr25 Hst]
  · isplitr; · iexact Henv
    isplitr; · ipureintro; rfl
    isplitl [Hcr25]; · iexact Hcr25
    iexact Hst
  iintro ⟨Hp, Hst⟩
  ihave Hr0 := (Entails.of_eq (show payK m ρ c 25 false = own c (row c) fullShare.left (am m ρ c) from rfl)) $$ Hp
  iapply step_ret
  iapply Hk
  isplitl [Hst]; · iexact Hst
  isplitl [Hcr27]; · iexact Hcr27
  iexact Hr0

/-- Part 18: all maxima, read. -/
theorem part18 (c : Dev nD) (v439 : BitVec 32) (v458 : BitVec 32) {Q : _ → sProp 𝕄} :
    iprop(env m ρ K ∗ st c 11 14 ∗ cred (tallyAt (cellAt c 26) () (amtK 26)) ∗ cred (tallyAt (cellAt c 27) () (amtK 27)) ∗ own c (row c) fullShare.left (am m ρ c)
      ∗ ((st c 11 19 ∗ own c mM fullShare (amAll m ρ)) -∗ Q (k0_pay19 (amAll m ρ))))
      ⊢ WP (F := F) c (k0_part18 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v439 v458) Q := by
  iintro ⟨#Henv, Hst, Hcr26, Hcr27, Hr0, Hk⟩
  rw [k0_part18_eq_skeleton]
  unfold k0_part18_skel
  simp only [semSignalWord, semWaitWord, Prog.lift, Prog.bind_op, Prog.bind_ret, Prog.pure_eq_ret, wp_deviceId]
  iapply (step_gotR m ρ K (n := 11) (w := 14) 28 ⟨rfl, rfl, by decide, by decide, by decide⟩ rfl (by decide) rfl) $$ [Hst]
  · isplitr; · iexact Henv
    isplitr; · ipureintro; rfl
    iexact Hst
  iintro ⟨Hp, Hst⟩
  ihave Hr3 := (Entails.of_eq (show payK m ρ c 28 false = own c (row (sh c 3)) fullShare (am m ρ (sh c 3)) from rfl)) $$ Hp
  iapply (step_gotS m ρ K (n := 11) (w := 15) 26 ⟨rfl, rfl, by decide, by decide, by decide⟩ rfl (by decide) rfl) $$ [Hcr26 Hst]
  · isplitr; · iexact Henv
    isplitr; · ipureintro; rfl
    isplitl [Hcr26]; · iexact Hcr26
    iexact Hst
  iintro ⟨Hp, Hst⟩
  ihave Hrb := (Entails.of_eq (show payK m ρ c 26 false = own c (row c) fullShare.right.left (am m ρ c) from rfl)) $$ Hp
  iapply (step_gotR m ρ K (n := 11) (w := 16) 29 ⟨rfl, rfl, by decide, by decide, by decide⟩ rfl (by decide) rfl) $$ [Hst]
  · isplitr; · iexact Henv
    isplitr; · ipureintro; rfl
    iexact Hst
  iintro ⟨Hp, Hst⟩
  ihave Hr2 := (Entails.of_eq (show payK m ρ c 29 false = own c (row (sh c 2)) fullShare (am m ρ (sh c 2)) from rfl)) $$ Hp
  iapply (step_gotS m ρ K (n := 11) (w := 17) 27 ⟨rfl, rfl, by decide, by decide, by decide⟩ rfl (by decide) rfl) $$ [Hcr27 Hst]
  · isplitr; · iexact Henv
    isplitr; · ipureintro; rfl
    isplitl [Hcr27]; · iexact Hcr27
    iexact Hst
  iintro ⟨Hp, Hst⟩
  ihave Hrc := (Entails.of_eq (show payK m ρ c 27 false = own c (row c) fullShare.right.right (am m ρ c) from rfl)) $$ Hp
  iapply (step_gotR m ρ K (n := 11) (w := 18) 30 ⟨rfl, rfl, by decide, by decide, by decide⟩ rfl (by decide) rfl) $$ [Hst]
  · isplitr; · iexact Henv
    isplitr; · ipureintro; rfl
    iexact Hst
  iintro ⟨Hp, Hst⟩
  ihave Hr1 := (Entails.of_eq (show payK m ρ c 30 false = own c (row (sh c 1)) fullShare (am m ρ (sh c 1)) from rfl)) $$ Hp
  ihave HM := (rows_join m ρ c) $$ [Hr0 Hrb Hrc Hr3 Hr2 Hr1]
  · isplitl [Hr0]; · iexact Hr0
    isplitl [Hrb]; · iexact Hrb
    isplitl [Hrc]; · iexact Hrc
    isplitl [Hr3]; · iexact Hr3
    isplitl [Hr2]; · iexact Hr2
    iexact Hr1
  iapply step_load_all $$ HM
  iintro HM
  iapply step_ret
  iapply Hk
  isplitl [Hst]; · iexact Hst
  iexact HM

/-- Part 19: the right-going ring's quantized block, sent. -/
theorem part19 (c : Dev nD) (v13 : BitVec 32) {Q : _ → sProp 𝕄} :
    iprop(env m ρ K ∗ st c 11 19 ∗ own c A3 fullShare (ra3 m ρ c) ∗ any (F := F) c QA0 ∗ any (F := F) (sh c 1) QA1 ∗ own c B3 fullShare (rb3 m ρ c)
      ∗ ((st c 12 19 ∗ own c A3 fullShare (ra3 m ρ c) ∗ own c B3 fullShare (rb3 m ρ c) ∗ own c QA0 fullShare.right (qa0 m ρ c) ∗ cred (tallyAt (cellAt c 13) () (amtK 13))) -∗ Q ⟨(k0_pay20 (k0_pay19 (amAll m ρ))), (k0_pay22 (k0_pay19 (amAll m ρ)) (rb3 m ρ c)), (Scalar.ofBits .f32 0x42FE0000#32), k0_pay23⟩))
      ⊢ WP (F := F) c (k0_part19 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13 (k0_pay19 (amAll m ρ))) Q := by
  iintro ⟨#Henv, Hst, HA3, HQA0, HnQA1, HB3, Hk⟩
  rw [k0_part19_eq_skeleton]
  unfold k0_part19_skel
  simp only [semSignalWord, semWaitWord, Prog.lift, Prog.bind_op, Prog.bind_ret, Prog.pure_eq_ret, wp_deviceId]
  iapply (step_load (fun _ => rfl)) $$ HA3
  iintro HA3
  icases HQA0 with ⟨%YQA0, HQA0⟩
  iapply (step_load (fun _ => rfl)) $$ HQA0
  iintro HQA0
  iapply (step_store (fun _ => rfl) (Z := qa0 m ρ c) rfl) $$ HQA0
  iintro HQA0
  icases (owns_halves (c : Thread nD τ) QA0 fullShare (qa0 m ρ c)).1 $$ HQA0 with ⟨HQA0l, HQA0⟩
  icases HnQA1 with ⟨%YnQA1, HnQA1⟩
  iapply (step_sendQ m ρ K (n := 11) (w := 19) ⟨1, 16, 13, false⟩ ⟨rfl, by decide, by decide⟩ (dev12_eq c) (by decide) (by decide) (by decide) (src := QA0) (dst := QA1) rfl rfl rfl rfl (Fw := iprop(emp)) (q := fullShare.left) (X := qa0 m ρ c) .rfl
      (Laws.sep_emp.1.trans (Entails.of_eq (congrArg (fun p => own (sh c 1) QA1 fullShare (qa0 m ρ p)) (sh13 c).symm)))) $$ [HQA0l HnQA1 Hst]
  · isplitr; · iexact Henv
    isplitl [HQA0l]; · iexact HQA0l
    isplitl [HnQA1]; · iexact HnQA1
    isplitr; · iempintro
    iexact Hst
  iintro ⟨Hcr13, Hst⟩
  iapply (step_load (fun _ => rfl)) $$ HB3
  iintro HB3
  iapply step_ret
  iapply Hk
  isplitl [Hst]; · iexact Hst
  isplitl [HA3]; · iexact HA3
  isplitl [HB3]; · iexact HB3
  isplitl [HQA0]; · iexact HQA0
  iexact Hcr13

end Cert.KernelIdealProof

end
-- ==== Proof.KernelIdeal.PartsF.lean ====
/-
# The body's parts 20 to 23

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 20: the left-going ring's quantized block, sent. -/
theorem part20 (c : Dev nD) (v2 : BitVec 32) (v24 : BitVec 32) {Q : _ → sProp 𝕄} :
    iprop(env m ρ K ∗ st c 12 19 ∗ any (F := F) c QB0 ∗ any (F := F) (sh c 3) QB1 ∗ own c QA0 fullShare.right (qa0 m ρ c) ∗ own c A0 fullShare (ra0 m ρ c)
      ∗ (∀ (a0 : BitVec 32), ∀ (a1 : BitVec 32), ∀ (a2 : BitVec 1), ∀ (a3 : BitVec 32), (st c 13 19 ∗ own c A0 fullShare (k0_pay25 (sc m ρ) (qa0 m ρ c)) ∗ own c QA0 fullShare.right (qa0 m ρ c) ∗ own c QB0 fullShare.right (qb0 m ρ c) ∗ cred (tallyAt (cellAt c 19) () (amtK 19))) -∗ Q ⟨a0, a1, a2, a3⟩))
      ⊢ WP (F := F) c (k0_part20 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24 (k0_pay20 (k0_pay19 (amAll m ρ))) (k0_pay22 (k0_pay19 (amAll m ρ)) (rb3 m ρ c)) (Scalar.ofBits .f32 0x42FE0000#32) k0_pay23) Q := by
  iintro ⟨#Henv, Hst, HQB0, HnQB1, HQA0, HA0, Hk⟩
  rw [k0_part20_eq_skeleton]
  unfold k0_part20_skel
  simp only [semSignalWord, semWaitWord, Prog.lift, Prog.bind_op, Prog.bind_ret, Prog.pure_eq_ret, wp_deviceId]
  icases HQB0 with ⟨%YQB0, HQB0⟩
  iapply (step_load (fun _ => rfl)) $$ HQB0
  iintro HQB0
  iapply (step_store (fun _ => rfl) (Z := qb0 m ρ c) rfl) $$ HQB0
  iintro HQB0
  icases (owns_halves (c : Thread nD τ) QB0 fullShare (qb0 m ρ c)).1 $$ HQB0 with ⟨HQB0l, HQB0⟩
  icases HnQB1 with ⟨%YnQB1, HnQB1⟩
  iapply (step_sendQ m ρ K (n := 12) (w := 19) ⟨3, 22, 19, false⟩ ⟨rfl, by decide, by decide⟩ (dev13_eq c) (by decide) (by decide) (by decide) (src := QB0) (dst := QB1) rfl rfl rfl rfl (Fw := iprop(emp)) (q := fullShare.left) (X := qb0 m ρ c) .rfl
      (Laws.sep_emp.1.trans (Entails.of_eq (congrArg (fun p => own (sh c 3) QB1 fullShare (qb0 m ρ p)) (sh31 c).symm)))) $$ [HQB0l HnQB1 Hst]
  · isplitr; · iexact Henv
    isplitl [HQB0l]; · iexact HQB0l
    isplitl [HnQB1]; · iexact HnQB1
    isplitr; · iempintro
    iexact Hst
  iintro ⟨Hcr19, Hst⟩
  iapply (step_load (fun _ => rfl)) $$ HQA0
  iintro HQA0
  iapply (step_load (fun _ => rfl)) $$ HA0
  iintro HA0
  iapply (step_store (fun _ => rfl) (Z := k0_pay25 (sc m ρ) (qa0 m ρ c)) rfl) $$ HA0
  iintro HA0
  iapply step_ret
  iapply Hk
  isplitl [Hst]; · iexact Hst
  isplitl [HA0]; · iexact HA0
  isplitl [HQA0]; · iexact HQA0
  isplitl [HQB0]; · iexact HQB0
  iexact Hcr19

/-- Part 21: the own block of the left half, on its way to the result. -/
theorem part21 (c : Dev nD) (v2 : BitVec 32) (v560 : BitVec 32) (v561 : BitVec 32) (v562 : BitVec 1) (c0_i32_560 : BitVec 32) {Q : _ → sProp 𝕄} :
    iprop(env m ρ K ∗ st c 13 19 ∗ any (F := F) c (OL c 0) ∗ own c A0 fullShare (k0_pay25 (sc m ρ) (qa0 m ρ c)) ∗ semVal (cellAt c 32) 0 ∗ own c QB0 fullShare.right (qb0 m ρ c) ∗ own c B0 fullShare (rb0 m ρ c)
      ∗ ((st c 13 19 ∗ own c B0 fullShare (k0_pay26 (sc m ρ) (qb0 m ρ c)) ∗ oFlight c 32 (OL c 0) A0 (k0_pay25 (sc m ρ) (qa0 m ρ c)) ∗ own c QB0 fullShare.right (qb0 m ρ c)) -∗ Q ⟨⟩))
      ⊢ WP (F := F) c (k0_part21 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 (k0_pay20 (k0_pay19 (amAll m ρ))) v560 v561 v562 c0_i32_560) Q := by
  iintro ⟨#Henv, Hst, HOL0, HA0, Hs32, HQB0, HB0, Hk⟩
  rw [k0_part21_eq_skeleton]
  unfold k0_part21_skel
  simp only [semSignalWord, semWaitWord, Prog.lift, Prog.bind_op, Prog.bind_ret, Prog.pure_eq_ret, wp_deviceId]
  icases HOL0 with ⟨%YOL0, HOL0⟩
  iapply (step_ocopy 32 rfl) $$ [HA0 HOL0 Hs32]
  · isplitr; · ipureintro; rfl
    isplitl [HA0]; · iexact HA0
    isplitl [HOL0]; · iexact HOL0
    iexact Hs32
  iintro HF32
  iapply (step_load (fun _ => rfl)) $$ HQB0
  iintro HQB0
  iapply (step_load (fun _ => rfl)) $$ HB0
  iintro HB0
  iapply (step_store (fun _ => rfl) (Z := k0_pay26 (sc m ρ) (qb0 m ρ c)) rfl) $$ HB0
  iintro HB0
  iapply step_ret
  iapply Hk
  isplitl [Hst]; · iexact Hst
  isplitl [HB0]; · iexact HB0
  isplitl [HF32]; · iexact HF32
  iexact HQB0

/-- Part 22: the own block of the right half, on its way. -/
theorem part22 (c : Dev nD) (v13 : BitVec 32) {Q : _ → sProp 𝕄} :
    iprop(env m ρ K ∗ st c 13 19 ∗ any (F := F) c (OR c 0) ∗ own c B0 fullShare (k0_pay26 (sc m ρ) (qb0 m ρ c)) ∗ semVal (cellAt c 36) 0 ∗ cred (tallyAt (cellAt c 13) () (amtK 13))
      ∗ ((st c 13 21 ∗ oFlight c 36 (OR c 0) B0 (k0_pay26 (sc m ρ) (qb0 m ρ c)) ∗ own c QA0 fullShare.left (qa0 m ρ c) ∗ own c QA1 fullShare (qa0 m ρ (sh c 3))) -∗ Q ⟨⟩))
      ⊢ WP (F := F) c (k0_part22 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, HOR0, HB0, Hs36, Hcr13, Hk⟩
  rw [k0_part22_eq_skeleton]
  unfold k0_part22_skel
  simp only [semSignalWord, semWaitWord, Prog.lift, Prog.bind_op, Prog.bind_ret, Prog.pure_eq_ret, wp_deviceId]
  icases HOR0 with ⟨%YOR0, HOR0⟩
  iapply (step_ocopy 36 rfl) $$ [HB0 HOR0 Hs36]
  · isplitr; · ipureintro; rfl
    isplitl [HB0]; · iexact HB0
    isplitl [HOR0]; · iexact HOR0
    iexact Hs36
  iintro HF36
  iapply (step_gotS m ρ K (n := 13) (w := 19) 13 ⟨rfl, rfl, by decide, by decide, by decide⟩ rfl (by decide) rfl) $$ [Hcr13 Hst]
  · isplitr; · iexact Henv
    isplitr; · ipureintro; rfl
    isplitl [Hcr13]; · iexact Hcr13
    iexact Hst
  iintro ⟨Hp, Hst⟩
  ihave HQA0l := (Entails.of_eq (show payK m ρ c 13 false = own c QA0 fullShare.left (qa0 m ρ c) from rfl)) $$ Hp
  iapply (step_gotR m ρ K (n := 13) (w := 20) 16 ⟨rfl, rfl, by decide, by decide, by decide⟩ rfl (by decide) rfl) $$ [Hst]
  · isplitr; · iexact Henv
    isplitr; · ipureintro; rfl
    iexact Hst
  iintro ⟨Hp, Hst⟩
  ihave HQA1 := (Entails.of_eq (show payK m ρ c 16 false = own c QA1 fullShare (qa0 m ρ (sh c 3)) from rfl)) $$ Hp
  iapply step_ret
  iapply Hk
  isplitl [Hst]; · iexact Hst
  isplitl [HF36]; · iexact HF36
  isplitl [HQA0l]; · iexact HQA0l
  iexact HQA1

/-- Part 23: the blocks that arrived, sent on. -/
theorem part23 (c : Dev nD) (v24 : BitVec 32) {Q : _ → sProp 𝕄} :
    iprop(env m ρ K ∗ st c 13 21 ∗ own c QA1 fullShare (qa0 m ρ (sh c 3)) ∗ any (F := F) (sh c 1) QA2 ∗ cred (tallyAt (cellAt c 19) () (amtK 19)) ∗ any (F := F) (sh c 3) QB2
      ∗ ((st c 15 23 ∗ own c QA1 fullShare.right (qa0 m ρ (sh c 3)) ∗ own c QB0 fullShare.left (qb0 m ρ c) ∗ own c QB1 fullShare.right (qb0 m ρ (sh c 1)) ∗ cred (tallyAt (cellAt c 14) () (amtK 14)) ∗ cred (tallyAt (cellAt c 20) () (amtK 20))) -∗ Q ⟨⟩))
      ⊢ WP (F := F) c (k0_part23 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v24) Q := by
  iintro ⟨#Henv, Hst, HQA1, HnQA2, Hcr19, HnQB2, Hk⟩
  rw [k0_part23_eq_skeleton]
  unfold k0_part23_skel
  simp only [semSignalWord, semWaitWord, Prog.lift, Prog.bind_op, Prog.bind_ret, Prog.pure_eq_ret, wp_deviceId]
  icases (owns_halves (c : Thread nD τ) QA1 fullShare (qa0 m ρ (sh c 3))).1 $$ HQA1 with ⟨HQA1l, HQA1⟩
  icases HnQA2 with ⟨%YnQA2, HnQA2⟩
  iapply (step_sendQ m ρ K (n := 13) (w := 21) ⟨1, 17, 14, false⟩ ⟨rfl, by decide, by decide⟩ (dev14_eq c) (by decide) (by decide) (by decide) (src := QA1) (dst := QA2) rfl rfl rfl rfl (Fw := iprop(emp)) (q := fullShare.left) (X := qa0 m ρ (sh c 3)) .rfl
      (Laws.sep_emp.1.trans (Entails.of_eq (congrArg (fun p => own (sh c 1) QA2 fullShare (qa0 m ρ p)) (sh12 c).symm)))) $$ [HQA1l HnQA2 Hst]
  · isplitr; · iexact Henv
    isplitl [HQA1l]; · iexact HQA1l
    isplitl [HnQA2]; · iexact HnQA2
    isplitr; · iempintro
    iexact Hst
  iintro ⟨Hcr14, Hst⟩
  iapply (step_gotS m ρ K (n := 14) (w := 21) 19 ⟨rfl, rfl, by decide, by decide, by decide⟩ rfl (by decide) rfl) $$ [Hcr19 Hst]
  · isplitr; · iexact Henv
    isplitr; · ipureintro; rfl
    isplitl [Hcr19]; · iexact Hcr19
    iexact Hst
  iintro ⟨Hp, Hst⟩
  ihave HQB0l := (Entails.of_eq (show payK m ρ c 19 false = own c QB0 fullShare.left (qb0 m ρ c) from rfl)) $$ Hp
  iapply (step_gotR m ρ K (n := 14) (w := 22) 22 ⟨rfl, rfl, by decide, by decide, by decide⟩ rfl (by decide) rfl) $$ [Hst]
  · isplitr; · iexact Henv
    isplitr; · ipureintro; rfl
    iexact Hst
  iintro ⟨Hp, Hst⟩
  ihave HQB1 := (Entails.of_eq (show payK m ρ c 22 false = own c QB1 fullShare (qb0 m ρ (sh c 1)) from rfl)) $$ Hp
  icases (owns_halves (c : Thread nD τ) QB1 fullShare (qb0 m ρ (sh c 1))).1 $$ HQB1 with ⟨HQB1l, HQB1⟩
  icases HnQB2 with ⟨%YnQB2, HnQB2⟩
  iapply (step_sendQ m ρ K (n := 14) (w := 23) ⟨3, 23, 20, false⟩ ⟨rfl, by decide, by decide⟩ (dev15_eq c) (by decide) (by decide) (by decide) (src := QB1) (dst := QB2) rfl rfl rfl rfl (Fw := iprop(emp)) (q := fullShare.left) (X := qb0 m ρ (sh c 1)) .rfl
      (Laws.sep_emp.1.trans (Entails.of_eq (congrArg (fun p => own (sh c 3) QB2 fullShare (qb0 m ρ p)) (sh32 c).symm)))) $$ [HQB1l HnQB2 Hst]
  · isplitr; · iexact Henv
    isplitl [HQB1l]; · iexact HQB1l
    isplitl [HnQB2]; · iexact HnQB2
    isplitr; · iempintro
    iexact Hst
  iintro ⟨Hcr20, Hst⟩
  iapply step_ret
  iapply Hk
  isplitl [Hst]; · iexact Hst
  isplitl [HQA1]; · iexact HQA1
  isplitl [HQB0l]; · iexact HQB0l
  isplitl [HQB1]; · iexact HQB1
  isplitl [Hcr14]; · iexact Hcr14
  iexact Hcr20

end Cert.KernelIdealProof

end
-- ==== Proof.KernelIdeal.PartsG.lean ====
/-
# The body's parts 24 to 27

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 24: the second block of the left half, on its way. -/
theorem part24 (c : Dev nD) (v2 : BitVec 32) {Q : _ → sProp 𝕄} :
    iprop(env m ρ K ∗ st c 15 23 ∗ own c QA1 fullShare.right (qa0 m ρ (sh c 3)) ∗ own c A1 fullShare (ra1 m ρ c) ∗ any (F := F) c (OL c 1) ∗ semVal (cellAt c 33) 0 ∗ own c QB1 fullShare.right (qb0 m ρ (sh c 1)) ∗ own c B1 fullShare (rb1 m ρ c)
      ∗ ((st c 15 23 ∗ own c B1 fullShare (rb1 m ρ c) ∗ oFlight c 33 (OL c 1) A1 (k0_pay25 (sc m ρ) (qa0 m ρ (sh c 3))) ∗ own c QA1 fullShare.right (qa0 m ρ (sh c 3)) ∗ own c QB1 fullShare.right (qb0 m ρ (sh c 1))) -∗ Q ⟨(k0_pay28 (k0_pay20 (k0_pay19 (amAll m ρ))) (qb0 m ρ (sh c 1))), rb1 m ρ c⟩))
      ⊢ WP (F := F) c (k0_part24 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 (k0_pay20 (k0_pay19 (amAll m ρ)))) Q := by
  iintro ⟨#Henv, Hst, HQA1, HA1, HOL1, Hs33, HQB1, HB1, Hk⟩
  rw [k0_part24_eq_skeleton]
  unfold k0_part24_skel
  simp only [semSignalWord, semWaitWord, Prog.lift, Prog.bind_op, Prog.bind_ret, Prog.pure_eq_ret, wp_deviceId]
  iapply (step_load (fun _ => rfl)) $$ HQA1
  iintro HQA1
  iapply (step_load (fun _ => rfl)) $$ HA1
  iintro HA1
  iapply (step_store (fun _ => rfl) (Z := k0_pay25 (sc m ρ) (qa0 m ρ (sh c 3))) rfl) $$ HA1
  iintro HA1
  icases HOL1 with ⟨%YOL1, HOL1⟩
  iapply (step_ocopy 33 rfl) $$ [HA1 HOL1 Hs33]
  · isplitr; · ipureintro; rfl
    isplitl [HA1]; · iexact HA1
    isplitl [HOL1]; · iexact HOL1
    iexact Hs33
  iintro HF33
  iapply (step_load (fun _ => rfl)) $$ HQB1
  iintro HQB1
  iapply (step_load (fun _ => rfl)) $$ HB1
  iintro HB1
  iapply step_ret
  iapply Hk
  isplitl [Hst]; · iexact Hst
  isplitl [HB1]; · iexact HB1
  isplitl [HF33]; · iexact HF33
  isplitl [HQA1]; · iexact HQA1
  iexact HQB1

/-- Part 25: the second block of the right half, on its way. -/
theorem part25 (c : Dev nD) (v2 : BitVec 32) (v13 : BitVec 32) (v680 : Vec F S1x1024x1024 .f32) {Q : _ → sProp 𝕄} :
    iprop(env m ρ K ∗ st c 15 23 ∗ own c B1 fullShare (rb1 m ρ c) ∗ any (F := F) c (OR c 1) ∗ semVal (cellAt c 37) 0 ∗ cred (tallyAt (cellAt c 14) () (amtK 14))
      ∗ ((st c 15 24 ∗ oFlight c 37 (OR c 1) B1 (k0_pay26 (sc m ρ) (qb0 m ρ (sh c 1))) ∗ own c QA1 fullShare.left (qa0 m ρ (sh c 3))) -∗ Q ⟨⟩))
      ⊢ WP (F := F) c (k0_part25 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v13 (k0_pay28 (k0_pay20 (k0_pay19 (amAll m ρ))) (qb0 m ρ (sh c 1))) v680) Q := by
  iintro ⟨#Henv, Hst, HB1, HOR1, Hs37, Hcr14, Hk⟩
  rw [k0_part25_eq_skeleton]
  unfold k0_part25_skel
  simp only [semSignalWord, semWaitWord, Prog.lift, Prog.bind_op, Prog.bind_ret, Prog.pure_eq_ret, wp_deviceId]
  iapply (step_store (fun _ => rfl) (Z := k0_pay26 (sc m ρ) (qb0 m ρ (sh c 1))) rfl) $$ HB1
  iintro HB1
  icases HOR1 with ⟨%YOR1, HOR1⟩
  iapply (step_ocopy 37 rfl) $$ [HB1 HOR1 Hs37]
  · isplitr; · ipureintro; rfl
    isplitl [HB1]; · iexact HB1
    isplitl [HOR1]; · iexact HOR1
    iexact Hs37
  iintro HF37
  iapply (step_gotS m ρ K (n := 15) (w := 23) 14 ⟨rfl, rfl, by decide, by decide, by decide⟩ rfl (by decide) rfl) $$ [Hcr14 Hst]
  · isplitr; · iexact Henv
    isplitr; · ipureintro; rfl
    isplitl [Hcr14]; · iexact Hcr14
    iexact Hst
  iintro ⟨Hp, Hst⟩
  ihave HQA1l := (Entails.of_eq (show payK m ρ c 14 false = own c QA1 fullShare.left (qa0 m ρ (sh c 3)) from rfl)) $$ Hp
  iapply step_ret
  iapply Hk
  isplitl [Hst]; · iexact Hst
  isplitl [HF37]; · iexact HF37
  iexact HQA1l

/-- Part 26: the right-going block that arrived, sent on. -/
theorem part26 (c : Dev nD) (v13 : BitVec 32) (v24 : BitVec 32) {Q : _ → sProp 𝕄} :
    iprop(env m ρ K ∗ st c 15 24 ∗ any (F := F) (sh c 1) QA3 ∗ cred (tallyAt (cellAt c 20) () (amtK 20))
      ∗ ((st c 16 26 ∗ own c QA2 fullShare.right (qa0 m ρ (sh c 2)) ∗ own c QB1 fullShare.left (qb0 m ρ (sh c 1)) ∗ cred (tallyAt (cellAt c 15) () (amtK 15))) -∗ Q ⟨⟩))
      ⊢ WP (F := F) c (k0_part26 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13 v24) Q := by
  iintro ⟨#Henv, Hst, HnQA3, Hcr20, Hk⟩
  rw [k0_part26_eq_skeleton]
  unfold k0_part26_skel
  simp only [semSignalWord, semWaitWord, Prog.lift, Prog.bind_op, Prog.bind_ret, Prog.pure_eq_ret, wp_deviceId]
  iapply (step_gotR m ρ K (n := 15) (w := 24) 17 ⟨rfl, rfl, by decide, by decide, by decide⟩ rfl (by decide) rfl) $$ [Hst]
  · isplitr; · iexact Henv
    isplitr; · ipureintro; rfl
    iexact Hst
  iintro ⟨Hp, Hst⟩
  ihave HQA2 := (Entails.of_eq (show payK m ρ c 17 false = own c QA2 fullShare (qa0 m ρ (sh c 2)) from rfl)) $$ Hp
  icases (owns_halves (c : Thread nD τ) QA2 fullShare (qa0 m ρ (sh c 2))).1 $$ HQA2 with ⟨HQA2l, HQA2⟩
  icases HnQA3 with ⟨%YnQA3, HnQA3⟩
  iapply (step_sendQ m ρ K (n := 15) (w := 25) ⟨1, 18, 15, false⟩ ⟨rfl, by decide, by decide⟩ (dev16_eq c) (by decide) (by decide) (by decide) (src := QA2) (dst := QA3) rfl rfl rfl rfl (Fw := iprop(emp)) (q := fullShare.left) (X := qa0 m ρ (sh c 2)) .rfl
      (Laws.sep_emp.1.trans (Entails.of_eq (congrArg (fun p => own (sh c 1) QA3 fullShare (qa0 m ρ p)) (sh11 c).symm)))) $$ [HQA2l HnQA3 Hst]
  · isplitr; · iexact Henv
    isplitl [HQA2l]; · iexact HQA2l
    isplitl [HnQA3]; · iexact HnQA3
    isplitr; · iempintro
    iexact Hst
  iintro ⟨Hcr15, Hst⟩
  iapply (step_gotS m ρ K (n := 16) (w := 25) 20 ⟨rfl, rfl, by decide, by decide, by decide⟩ rfl (by decide) rfl) $$ [Hcr20 Hst]
  · isplitr; · iexact Henv
    isplitr; · ipureintro; rfl
    isplitl [Hcr20]; · iexact Hcr20
    iexact Hst
  iintro ⟨Hp, Hst⟩
  ihave HQB1l := (Entails.of_eq (show payK m ρ c 20 false = own c QB1 fullShare.left (qb0 m ρ (sh c 1)) from rfl)) $$ Hp
  iapply step_ret
  iapply Hk
  isplitl [Hst]; · iexact Hst
  isplitl [HQA2]; · iexact HQA2
  isplitl [HQB1l]; · iexact HQB1l
  iexact Hcr15

/-- Part 27: the left-going block that arrived, sent on. -/
theorem part27 (c : Dev nD) (v2 : BitVec 32) (v24 : BitVec 32) {Q : _ → sProp 𝕄} :
    iprop(env m ρ K ∗ st c 16 26 ∗ any (F := F) (sh c 3) QB3 ∗ own c QA2 fullShare.right (qa0 m ρ (sh c 2)) ∗ own c A2 fullShare (ra2 m ρ c)
      ∗ (∀ (a0 : BitVec 32), ∀ (a1 : BitVec 32), ∀ (a2 : BitVec 1), ∀ (a3 : BitVec 1), (st c 17 27 ∗ own c A2 fullShare (k0_pay25 (sc m ρ) (qa0 m ρ (sh c 2))) ∗ own c QA2 fullShare.right (qa0 m ρ (sh c 2)) ∗ own c QB2 fullShare.right (qb0 m ρ (sh c 2)) ∗ cred (tallyAt (cellAt c 21) () (amtK 21))) -∗ Q ⟨a0, a1, a2, a3⟩))
      ⊢ WP (F := F) c (k0_part27 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24 (k0_pay20 (k0_pay19 (amAll m ρ)))) Q := by
  iintro ⟨#Henv, Hst, HnQB3, HQA2, HA2, Hk⟩
  rw [k0_part27_eq_skeleton]
  unfold k0_part27_skel
  simp only [semSignalWord, semWaitWord, Prog.lift, Prog.bind_op, Prog.bind_ret, Prog.pure_eq_ret, wp_deviceId]
  iapply (step_gotR m ρ K (n := 16) (w := 26) 23 ⟨rfl, rfl, by decide, by decide, by decide⟩ rfl (by decide) rfl) $$ [Hst]
  · isplitr; · iexact Henv
    isplitr; · ipureintro; rfl
    iexact Hst
  iintro ⟨Hp, Hst⟩
  ihave HQB2 := (Entails.of_eq (show payK m ρ c 23 false = own c QB2 fullShare (qb0 m ρ (sh c 2)) from rfl)) $$ Hp
  icases (owns_halves (c : Thread nD τ) QB2 fullShare (qb0 m ρ (sh c 2))).1 $$ HQB2 with ⟨HQB2l, HQB2⟩
  icases HnQB3 with ⟨%YnQB3, HnQB3⟩
  iapply (step_sendQ m ρ K (n := 16) (w := 27) ⟨3, 24, 21, false⟩ ⟨rfl, by decide, by decide⟩ (dev17_eq c) (by decide) (by decide) (by decide) (src := QB2) (dst := QB3) rfl rfl rfl rfl (Fw := iprop(emp)) (q := fullShare.left) (X := qb0 m ρ (sh c 2)) .rfl
      (Laws.sep_emp.1.trans (Entails.of_eq (congrArg (fun p => own (sh c 3) QB3 fullShare (qb0 m ρ p)) (sh33 c).symm)))) $$ [HQB2l HnQB3 Hst]
  · isplitr; · iexact Henv
    isplitl [HQB2l]; · iexact HQB2l
    isplitl [HnQB3]; · iexact HnQB3
    isplitr; · iempintro
    iexact Hst
  iintro ⟨Hcr21, Hst⟩
  iapply (step_load (fun _ => rfl)) $$ HQA2
  iintro HQA2
  iapply (step_load (fun _ => rfl)) $$ HA2
  iintro HA2
  iapply (step_store (fun _ => rfl) (Z := k0_pay25 (sc m ρ) (qa0 m ρ (sh c 2))) rfl) $$ HA2
  iintro HA2
  iapply step_ret
  iapply Hk
  isplitl [Hst]; · iexact Hst
  isplitl [HA2]; · iexact HA2
  isplitl [HQA2]; · iexact HQA2
  isplitl [HQB2]; · iexact HQB2
  iexact Hcr21

end Cert.KernelIdealProof

end
-- ==== Proof.KernelIdeal.PartsH.lean ====
/-
# The body's parts 28 to 32

What each part of the body does on device `c`, whatever the words it is passed.
-/
module

public import proofs.«01_k».proof.Proof.KernelIdeal.Steps

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- Part 28: the third block of the left half, on its way. -/
theorem part28 (c : Dev nD) (v2 : BitVec 32) (v760 : BitVec 32) (v761 : BitVec 32) (v762 : BitVec 1) (v765 : BitVec 1) {Q : _ → sProp 𝕄} :
    iprop(env m ρ K ∗ st c 17 27 ∗ any (F := F) c (OL c 2) ∗ own c A2 fullShare (k0_pay25 (sc m ρ) (qa0 m ρ (sh c 2))) ∗ semVal (cellAt c 34) 0 ∗ own c QB2 fullShare.right (qb0 m ρ (sh c 2)) ∗ own c B2 fullShare (rb2 m ρ c)
      ∗ ((st c 17 27 ∗ own c B2 fullShare (k0_pay26 (sc m ρ) (qb0 m ρ (sh c 2))) ∗ oFlight c 34 (OL c 2) A2 (k0_pay25 (sc m ρ) (qa0 m ρ (sh c 2))) ∗ own c QB2 fullShare.right (qb0 m ρ (sh c 2))) -∗ Q ⟨⟩))
      ⊢ WP (F := F) c (k0_part28 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 (k0_pay20 (k0_pay19 (amAll m ρ))) v760 v761 v762 v765) Q := by
  iintro ⟨#Henv, Hst, HOL2, HA2, Hs34, HQB2, HB2, Hk⟩
  rw [k0_part28_eq_skeleton]
  unfold k0_part28_skel
  simp only [semSignalWord, semWaitWord, Prog.lift, Prog.bind_op, Prog.bind_ret, Prog.pure_eq_ret, wp_deviceId]
  icases HOL2 with ⟨%YOL2, HOL2⟩
  iapply (step_ocopy 34 rfl) $$ [HA2 HOL2 Hs34]
  · isplitr; · ipureintro; rfl
    isplitl [HA2]; · iexact HA2
    isplitl [HOL2]; · iexact HOL2
    iexact Hs34
  iintro HF34
  iapply (step_load (fun _ => rfl)) $$ HQB2
  iintro HQB2
  iapply (step_load (fun _ => rfl)) $$ HB2
  iintro HB2
  iapply (step_store (fun _ => rfl) (Z := k0_pay26 (sc m ρ) (qb0 m ρ (sh c 2))) rfl) $$ HB2
  iintro HB2
  iapply step_ret
  iapply Hk
  isplitl [Hst]; · iexact Hst
  isplitl [HB2]; · iexact HB2
  isplitl [HF34]; · iexact HF34
  iexact HQB2

/-- Part 29: the third block of the right half, on its way. -/
theorem part29 (c : Dev nD) (v13 : BitVec 32) {Q : _ → sProp 𝕄} :
    iprop(env m ρ K ∗ st c 17 27 ∗ any (F := F) c (OR c 2) ∗ own c B2 fullShare (k0_pay26 (sc m ρ) (qb0 m ρ (sh c 2))) ∗ semVal (cellAt c 38) 0 ∗ cred (tallyAt (cellAt c 15) () (amtK 15)) ∗ cred (tallyAt (cellAt c 21) () (amtK 21))
      ∗ (∀ (a0 : BitVec 32), (st c 17 30 ∗ oFlight c 38 (OR c 2) B2 (k0_pay26 (sc m ρ) (qb0 m ρ (sh c 2))) ∗ own c QA2 fullShare.left (qa0 m ρ (sh c 2)) ∗ own c QA3 fullShare (qa0 m ρ (sh c 1)) ∗ own c QB2 fullShare.left (qb0 m ρ (sh c 2))) -∗ Q a0))
      ⊢ WP (F := F) c (k0_part29 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v13) Q := by
  iintro ⟨#Henv, Hst, HOR2, HB2, Hs38, Hcr15, Hcr21, Hk⟩
  rw [k0_part29_eq_skeleton]
  unfold k0_part29_skel
  simp only [semSignalWord, semWaitWord, Prog.lift, Prog.bind_op, Prog.bind_ret, Prog.pure_eq_ret, wp_deviceId]
  icases HOR2 with ⟨%YOR2, HOR2⟩
  iapply (step_ocopy 38 rfl) $$ [HB2 HOR2 Hs38]
  · isplitr; · ipureintro; rfl
    isplitl [HB2]; · iexact HB2
    isplitl [HOR2]; · iexact HOR2
    iexact Hs38
  iintro HF38
  iapply (step_gotS m ρ K (n := 17) (w := 27) 15 ⟨rfl, rfl, by decide, by decide, by decide⟩ rfl (by decide) rfl) $$ [Hcr15 Hst]
  · isplitr; · iexact Henv
    isplitr; · ipureintro; rfl
    isplitl [Hcr15]; · iexact Hcr15
    iexact Hst
  iintro ⟨Hp, Hst⟩
  ihave HQA2l := (Entails.of_eq (show payK m ρ c 15 false = own c QA2 fullShare.left (qa0 m ρ (sh c 2)) from rfl)) $$ Hp
  iapply (step_gotR m ρ K (n := 17) (w := 28) 18 ⟨rfl, rfl, by decide, by decide, by decide⟩ rfl (by decide) rfl) $$ [Hst]
  · isplitr; · iexact Henv
    isplitr; · ipureintro; rfl
    iexact Hst
  iintro ⟨Hp, Hst⟩
  ihave HQA3 := (Entails.of_eq (show payK m ρ c 18 false = own c QA3 fullShare (qa0 m ρ (sh c 1)) from rfl)) $$ Hp
  iapply (step_gotS m ρ K (n := 17) (w := 29) 21 ⟨rfl, rfl, by decide, by decide, by decide⟩ rfl (by decide) rfl) $$ [Hcr21 Hst]
  · isplitr; · iexact Henv
    isplitr; · ipureintro; rfl
    isplitl [Hcr21]; · iexact Hcr21
    iexact Hst
  iintro ⟨Hp, Hst⟩
  ihave HQB2l := (Entails.of_eq (show payK m ρ c 21 false = own c QB2 fullShare.left (qb0 m ρ (sh c 2)) from rfl)) $$ Hp
  iapply step_ret
  iapply Hk
  isplitl [Hst]; · iexact Hst
  isplitl [HF38]; · iexact HF38
  isplitl [HQA2l]; · iexact HQA2l
  isplitl [HQA3]; · iexact HQA3
  iexact HQB2l

/-- Part 30: the last block of the left half. -/
theorem part30 (c : Dev nD) (v2 : BitVec 32) (v24 : BitVec 32) (c1_i32_816 : BitVec 32) {Q : _ → sProp 𝕄} :
    iprop(env m ρ K ∗ st c 17 30 ∗ own c QA3 fullShare (qa0 m ρ (sh c 1)) ∗ own c A3 fullShare (ra3 m ρ c)
      ∗ ((st c 17 31 ∗ own c A3 fullShare (k0_pay25 (sc m ρ) (qa0 m ρ (sh c 1))) ∗ own c QA3 fullShare (qa0 m ρ (sh c 1)) ∗ own c QB3 fullShare (qb0 m ρ (sh c 3))) -∗ Q ⟨⟩))
      ⊢ WP (F := F) c (k0_part30 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 v24 (k0_pay20 (k0_pay19 (amAll m ρ))) c1_i32_816) Q := by
  iintro ⟨#Henv, Hst, HQA3, HA3, Hk⟩
  rw [k0_part30_eq_skeleton]
  unfold k0_part30_skel
  simp only [semSignalWord, semWaitWord, Prog.lift, Prog.bind_op, Prog.bind_ret, Prog.pure_eq_ret, wp_deviceId]
  iapply (step_gotR m ρ K (n := 17) (w := 30) 24 ⟨rfl, rfl, by decide, by decide, by decide⟩ rfl (by decide) rfl) $$ [Hst]
  · isplitr; · iexact Henv
    isplitr; · ipureintro; rfl
    iexact Hst
  iintro ⟨Hp, Hst⟩
  ihave HQB3 := (Entails.of_eq (show payK m ρ c 24 false = own c QB3 fullShare (qb0 m ρ (sh c 3)) from rfl)) $$ Hp
  iapply (step_load (fun _ => rfl)) $$ HQA3
  iintro HQA3
  iapply (step_load (fun _ => rfl)) $$ HA3
  iintro HA3
  iapply (step_store (fun _ => rfl) (Z := k0_pay25 (sc m ρ) (qa0 m ρ (sh c 1))) rfl) $$ HA3
  iintro HA3
  iapply step_ret
  iapply Hk
  isplitl [Hst]; · iexact Hst
  isplitl [HA3]; · iexact HA3
  isplitl [HQA3]; · iexact HQA3
  iexact HQB3

/-- Part 31: the last blocks, on their way. -/
theorem part31 (c : Dev nD) (v2 : BitVec 32) {Q : _ → sProp 𝕄} :
    iprop(env m ρ K ∗ st c 17 31 ∗ any (F := F) c (OL c 3) ∗ own c A3 fullShare (k0_pay25 (sc m ρ) (qa0 m ρ (sh c 1))) ∗ semVal (cellAt c 35) 0 ∗ own c QB3 fullShare (qb0 m ρ (sh c 3)) ∗ own c B3 fullShare (rb3 m ρ c) ∗ any (F := F) c (OR c 3) ∗ semVal (cellAt c 39) 0
      ∗ ((st c 17 31 ∗ oFlight c 35 (OL c 3) A3 (k0_pay25 (sc m ρ) (qa0 m ρ (sh c 1))) ∗ oFlight c 39 (OR c 3) B3 (k0_pay26 (sc m ρ) (qb0 m ρ (sh c 3))) ∗ own c QB3 fullShare (qb0 m ρ (sh c 3))) -∗ Q ⟨⟩))
      ⊢ WP (F := F) c (k0_part31 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c v2 (k0_pay20 (k0_pay19 (amAll m ρ)))) Q := by
  iintro ⟨#Henv, Hst, HOL3, HA3, Hs35, HQB3, HB3, HOR3, Hs39, Hk⟩
  rw [k0_part31_eq_skeleton]
  unfold k0_part31_skel
  simp only [semSignalWord, semWaitWord, Prog.lift, Prog.bind_op, Prog.bind_ret, Prog.pure_eq_ret, wp_deviceId]
  icases HOL3 with ⟨%YOL3, HOL3⟩
  iapply (step_ocopy 35 rfl) $$ [HA3 HOL3 Hs35]
  · isplitr; · ipureintro; rfl
    isplitl [HA3]; · iexact HA3
    isplitl [HOL3]; · iexact HOL3
    iexact Hs35
  iintro HF35
  iapply (step_load (fun _ => rfl)) $$ HQB3
  iintro HQB3
  iapply (step_load (fun _ => rfl)) $$ HB3
  iintro HB3
  iapply (step_store (fun _ => rfl) (Z := k0_pay26 (sc m ρ) (qb0 m ρ (sh c 3))) rfl) $$ HB3
  iintro HB3
  icases HOR3 with ⟨%YOR3, HOR3⟩
  iapply (step_ocopy 39 rfl) $$ [HB3 HOR3 Hs39]
  · isplitr; · ipureintro; rfl
    isplitl [HB3]; · iexact HB3
    isplitl [HOR3]; · iexact HOR3
    iexact Hs39
  iintro HF39
  iapply step_ret
  iapply Hk
  isplitl [Hst]; · iexact Hst
  isplitl [HF35]; · iexact HF35
  isplitl [HF39]; · iexact HF39
  iexact HQB3

/-- Part 32: waiting for six of the eight copies. -/
theorem part32 (c : Dev nD) {Q : _ → sProp 𝕄} :
    iprop(env m ρ K ∗ st c 17 31 ∗ oFlight c 32 (OL c 0) A0 (k0_pay25 (sc m ρ) (qa0 m ρ c)) ∗ oFlight c 36 (OR c 0) B0 (k0_pay26 (sc m ρ) (qb0 m ρ c)) ∗ oFlight c 33 (OL c 1) A1 (k0_pay25 (sc m ρ) (qa0 m ρ (sh c 3))) ∗ oFlight c 37 (OR c 1) B1 (k0_pay26 (sc m ρ) (qb0 m ρ (sh c 1))) ∗ oFlight c 34 (OL c 2) A2 (k0_pay25 (sc m ρ) (qa0 m ρ (sh c 2))) ∗ oFlight c 38 (OR c 2) B2 (k0_pay26 (sc m ρ) (qb0 m ρ (sh c 2)))
      ∗ ((st c 17 31 ∗ own c A0 fullShare (k0_pay25 (sc m ρ) (qa0 m ρ c)) ∗ own c A1 fullShare (k0_pay25 (sc m ρ) (qa0 m ρ (sh c 3))) ∗ own c A2 fullShare (k0_pay25 (sc m ρ) (qa0 m ρ (sh c 2))) ∗ own c B0 fullShare (k0_pay26 (sc m ρ) (qb0 m ρ c)) ∗ own c B1 fullShare (k0_pay26 (sc m ρ) (qb0 m ρ (sh c 1))) ∗ own c B2 fullShare (k0_pay26 (sc m ρ) (qb0 m ρ (sh c 2))) ∗ own c (OL c 0) fullShare (flat (k0_pay25 (sc m ρ) (qa0 m ρ c))) ∗ own c (OL c 1) fullShare (flat (k0_pay25 (sc m ρ) (qa0 m ρ (sh c 3)))) ∗ own c (OL c 2) fullShare (flat (k0_pay25 (sc m ρ) (qa0 m ρ (sh c 2)))) ∗ own c (OR c 0) fullShare (flat (k0_pay26 (sc m ρ) (qb0 m ρ c))) ∗ own c (OR c 1) fullShare (flat (k0_pay26 (sc m ρ) (qb0 m ρ (sh c 1)))) ∗ own c (OR c 2) fullShare (flat (k0_pay26 (sc m ρ) (qb0 m ρ (sh c 2)))) ∗ semVal (cellAt c 32) 0 ∗ semVal (cellAt c 33) 0 ∗ semVal (cellAt c 34) 0 ∗ semVal (cellAt c 36) 0 ∗ semVal (cellAt c 37) 0 ∗ semVal (cellAt c 38) 0) -∗ Q ⟨⟩))
      ⊢ WP (F := F) c (k0_part32 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0 c) Q := by
  iintro ⟨#Henv, Hst, HF32, HF36, HF33, HF37, HF34, HF38, Hk⟩
  rw [k0_part32_eq_skeleton]
  unfold k0_part32_skel
  simp only [semSignalWord, semWaitWord, Prog.lift, Prog.bind_op, Prog.bind_ret, Prog.pure_eq_ret, wp_deviceId]
  iapply (step_waitL m ρ K (n := 17) (w := 31) 32 (by decide) (by decide) rfl rfl) $$ [HF32 Hst]
  · isplitr; · iexact Henv
    isplitl [HF32]; · iexact HF32
    iexact Hst
  iintro ⟨⟨HOL0, HA0⟩, Hs32, Hst⟩
  iapply (step_waitL m ρ K (n := 17) (w := 31) 36 (by decide) (by decide) rfl rfl) $$ [HF36 Hst]
  · isplitr; · iexact Henv
    isplitl [HF36]; · iexact HF36
    iexact Hst
  iintro ⟨⟨HOR0, HB0⟩, Hs36, Hst⟩
  iapply (step_waitL m ρ K (n := 17) (w := 31) 33 (by decide) (by decide) rfl rfl) $$ [HF33 Hst]
  · isplitr; · iexact Henv
    isplitl [HF33]; · iexact HF33
    iexact Hst
  iintro ⟨⟨HOL1, HA1⟩, Hs33, Hst⟩
  iapply (step_waitL m ρ K (n := 17) (w := 31) 37 (by decide) (by decide) rfl rfl) $$ [HF37 Hst]
  · isplitr; · iexact Henv
    isplitl [HF37]; · iexact HF37
    iexact Hst
  iintro ⟨⟨HOR1, HB1⟩, Hs37, Hst⟩
  iapply (step_waitL m ρ K (n := 17) (w := 31) 34 (by decide) (by decide) rfl rfl) $$ [HF34 Hst]
  · isplitr; · iexact Henv
    isplitl [HF34]; · iexact HF34
    iexact Hst
  iintro ⟨⟨HOL2, HA2⟩, Hs34, Hst⟩
  iapply (step_waitL m ρ K (n := 17) (w := 31) 38 (by decide) (by decide) rfl rfl) $$ [HF38 Hst]
  · isplitr; · iexact Henv
    isplitl [HF38]; · iexact HF38
    iexact Hst
  iintro ⟨⟨HOR2, HB2⟩, Hs38, Hst⟩
  iapply step_ret
  iapply Hk
  isplitl [Hst]; · iexact Hst
  isplitl [HA0]; · iexact HA0
  isplitl [HA1]; · iexact HA1
  isplitl [HA2]; · iexact HA2
  isplitl [HB0]; · iexact HB0
  isplitl [HB1]; · iexact HB1
  isplitl [HB2]; · iexact HB2
  isplitl [HOL0]; · iexact HOL0
  isplitl [HOL1]; · iexact HOL1
  isplitl [HOL2]; · iexact HOL2
  isplitl [HOR0]; · iexact HOR0
  isplitl [HOR1]; · iexact HOR1
  isplitl [HOR2]; · iexact HOR2
  isplitl [Hs32]; · iexact Hs32
  isplitl [Hs33]; · iexact Hs33
  isplitl [Hs34]; · iexact Hs34
  isplitl [Hs36]; · iexact Hs36
  isplitl [Hs37]; · iexact Hs37
  iexact Hs38

end Cert.KernelIdealProof

end
-- ==== Proof.KernelIdeal.Body.lean ====
/-
# The body

The parts in sequence: what the whole body does on device `c`.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE
public import proofs.«01_k».proof.Proof.KernelIdeal.PartsF
public import proofs.«01_k».proof.Proof.KernelIdeal.PartsG
public import proofs.«01_k».proof.Proof.KernelIdeal.PartsH

@[expose] public section

set_option maxHeartbeats 1000000

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 32 → ℕ)

/-- What a device ends with: its inputs, the blocks of the result, and what it leaves in its scratch buffers. -/
def ended (c : Dev nD) : sProp 𝕄 :=
  iprop(own c A0 fullShare (k0_pay25 (sc m ρ) (qa0 m ρ c)) ∗ own c B0 fullShare (k0_pay26 (sc m ρ) (qb0 m ρ c)) ∗ own c QA0 fullShare.right (qa0 m ρ c) ∗ own c QB0 fullShare.right (qb0 m ρ c) ∗ own c (OL c 0) fullShare (flat (k0_pay25 (sc m ρ) (qa0 m ρ c))) ∗ own c (OR c 0) fullShare (flat (k0_pay26 (sc m ρ) (qb0 m ρ c))) ∗ own c A1 fullShare (k0_pay25 (sc m ρ) (qa0 m ρ (sh c 3))) ∗ own c B1 fullShare (k0_pay26 (sc m ρ) (qb0 m ρ (sh c 1))) ∗ own c QA1 fullShare.right (qa0 m ρ (sh c 3)) ∗ own c QB1 fullShare.right (qb0 m ρ (sh c 1)) ∗ own c (OL c 1) fullShare (flat (k0_pay25 (sc m ρ) (qa0 m ρ (sh c 3)))) ∗ own c (OR c 1) fullShare (flat (k0_pay26 (sc m ρ) (qb0 m ρ (sh c 1)))) ∗ own c A2 fullShare (k0_pay25 (sc m ρ) (qa0 m ρ (sh c 2))) ∗ own c B2 fullShare (k0_pay26 (sc m ρ) (qb0 m ρ (sh c 2))) ∗ own c QA2 fullShare.right (qa0 m ρ (sh c 2)) ∗ own c QB2 fullShare.right (qb0 m ρ (sh c 2)) ∗ own c (OL c 2) fullShare (flat (k0_pay25 (sc m ρ) (qa0 m ρ (sh c 2)))) ∗ own c (OR c 2) fullShare (flat (k0_pay26 (sc m ρ) (qb0 m ρ (sh c 2)))) ∗ own c A3 fullShare (k0_pay25 (sc m ρ) (qa0 m ρ (sh c 1))) ∗ own c B3 fullShare (k0_pay26 (sc m ρ) (qb0 m ρ (sh c 3))) ∗ own c QA3 fullShare (qa0 m ρ (sh c 1)) ∗ own c QB3 fullShare (qb0 m ρ (sh c 3)) ∗ own c (OL c 3) fullShare (flat (k0_pay25 (sc m ρ) (qa0 m ρ (sh c 1)))) ∗ own c (OR c 3) fullShare (flat (k0_pay26 (sc m ρ) (qb0 m ρ (sh c 3)))) ∗ own c T0 fullShare (pa3 m ρ c) ∗ own c T1 fullShare (pb3 m ρ c) ∗ own c xb fullShare (xch m c (sh c 3)) ∗ own c mX fullShare (xg m c) ∗ own c mW fullShare (wg m ρ c) ∗ semVal (cellAt c 31) 0 ∗ semVal (cellAt c 32) 0 ∗ semVal (cellAt c 33) 0 ∗ semVal (cellAt c 34) 0 ∗ semVal (cellAt c 35) 0 ∗ semVal (cellAt c 36) 0 ∗ semVal (cellAt c 37) 0 ∗ semVal (cellAt c 38) 0 ∗ semVal (cellAt c 39) 0 ∗ own c mM fullShare (amAll m ρ) ∗ own c QA0 fullShare.left (qa0 m ρ c) ∗ own c QB0 fullShare.left (qb0 m ρ c) ∗ own c QA1 fullShare.left (qa0 m ρ (sh c 3)) ∗ own c QB1 fullShare.left (qb0 m ρ (sh c 1)) ∗ own c QA2 fullShare.left (qa0 m ρ (sh c 2)) ∗ own c QB2 fullShare.left (qb0 m ρ (sh c 2)))

/-- What it starts with, besides its state on the ring. -/
def begun (c : Dev nD) : sProp 𝕄 :=
  iprop(any (F := F) c A0 ∗ any (F := F) c B0 ∗ any (F := F) c QA0 ∗ any (F := F) c QB0 ∗ any (F := F) c (OL c 0) ∗ any (F := F) c (OR c 0) ∗ any (F := F) c A1 ∗ any (F := F) c B1 ∗ any (F := F) c QA1 ∗ any (F := F) c QB1 ∗ any (F := F) c (OL c 1) ∗ any (F := F) c (OR c 1) ∗ any (F := F) c A2 ∗ any (F := F) c B2 ∗ any (F := F) c QA2 ∗ any (F := F) c QB2 ∗ any (F := F) c (OL c 2) ∗ any (F := F) c (OR c 2) ∗ any (F := F) c A3 ∗ any (F := F) c B3 ∗ any (F := F) c QA3 ∗ any (F := F) c QB3 ∗ any (F := F) c (OL c 3) ∗ any (F := F) c (OR c 3) ∗ any (F := F) c (row c) ∗ any (F := F) c (row (sh c 1)) ∗ any (F := F) c (row (sh c 2)) ∗ any (F := F) c (row (sh c 3)) ∗ any (F := F) c T0 ∗ any (F := F) c T1 ∗ any (F := F) c xb ∗ own c mX fullShare (xg m c) ∗ own c mW fullShare (wg m ρ c) ∗ semVal (cellAt c 31) 0 ∗ semVal (cellAt c 32) 0 ∗ semVal (cellAt c 33) 0 ∗ semVal (cellAt c 34) 0 ∗ semVal (cellAt c 35) 0 ∗ semVal (cellAt c 36) 0 ∗ semVal (cellAt c 37) 0 ∗ semVal (cellAt c 38) 0 ∗ semVal (cellAt c 39) 0)

/-- The parts in order, up to the first of the body's last two signals. -/
theorem part33 (c : Dev nD) {Q : _ → sProp 𝕄} :
    iprop(env m ρ K ∗ st c 0 0 ∗ begun m ρ c ∗ (∀ a, (st c 18 31 ∗ ended m ρ c) -∗ Q ⟨c, a, 0#32⟩))
      ⊢ WP (F := F) c (k0_part33 mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0) Q := by
  unfold begun ended
  iintro ⟨#Henv, Hst, ⟨HA0, HB0, HQA0, HQB0, HOL0, HOR0, HA1, HB1, HQA1, HQB1, HOL1, HOR1, HA2, HB2, HQA2, HQB2, HOL2, HOR2, HA3, HB3, HQA3, HQB3, HOL3, HOR3, Hr0, Hr1, Hr2, Hr3, HT0, HT1, Hxb, HX, HW, Hs31, Hs32, Hs33, Hs34, Hs35, Hs36, Hs37, Hs38, Hs39⟩, Hk⟩
  rw [k0_part33_eq_skeleton]
  unfold k0_part33_skel
  simp only [semSignalWord, semWaitWord, Prog.lift, Prog.pure_eq_ret]
  iapply step_bind
  iapply (part1 m ρ K c )
  isplitr; · iexact Henv
  isplitl [Hst]; · iexact Hst
  isplitl [HA1]; · iexact HA1
  isplitl [HA2]; · iexact HA2
  isplitl [HA3]; · iexact HA3
  isplitl [HQA1]; · iexact HQA1
  isplitl [HQA2]; · iexact HQA2
  isplitl [HQA3]; · iexact HQA3
  isplitl [Hr3]; · iexact Hr3
  isplitl [Hr2]; · iexact Hr2
  isplitl [HB1]; · iexact HB1
  isplitl [HB2]; · iexact HB2
  isplitl [HB3]; · iexact HB3
  isplitl [HQB1]; · iexact HQB1
  isplitl [HQB2]; · iexact HQB2
  isplitl [HQB3]; · iexact HQB3
  isplitl [Hr1]; · iexact Hr1
  iintro %a1_0 %a1_1 %a1_2 ⟨Hst, Hn1r, Hn3r, HnA1, HnA2, HnA3, HnB1, HnB2, HnB3, HnF, HnQA1, HnQA2, HnQA3, HnQB1, HnQB2, HnQB3⟩
  try dsimp only
  iapply step_bind
  iapply (part2 m ρ K c _)
  isplitr; · iexact Henv
  isplitl [Hst]; · iexact Hst
  isplitl [Hxb]; · iexact Hxb
  isplitl [HX]; · iexact HX
  isplitl [Hs31]; · iexact Hs31
  isplitl [HW]; · iexact HW
  isplitl [HA0]; · iexact HA0
  isplitl [HnA1]; · iexact HnA1
  iintro  ⟨Hst, HW, HX, Hcr1, Hs31, Hxb⟩
  try dsimp only
  iapply step_bind
  iapply (part3 m ρ K c _ _)
  isplitr; · iexact Henv
  isplitl [Hst]; · iexact Hst
  isplitl [HW]; · iexact HW
  isplitl [HB0]; · iexact HB0
  isplitl [HnB1]; · iexact HnB1
  isplitl [HnF]; · iexact HnF
  iintro %a3_0 %a3_1 %a3_2 %a3_3 ⟨Hst, HW, Hcr7⟩
  try dsimp only
  iapply step_bind
  iapply (part4 m ρ K c _ _ _ _)
  isplitr; · iexact Henv
  isplitl [Hst]; · iexact Hst
  isplitl [Hxb]; · iexact Hxb
  isplitl [HX]; · iexact HX
  isplitl [Hs31]; · iexact Hs31
  isplitl [HW]; · iexact HW
  isplitl [HT0]; · iexact HT0
  iintro  ⟨Hst, HFX, HT0, HW⟩
  try dsimp only
  iapply step_bind
  iapply (part5 m ρ K c _)
  isplitr; · iexact Henv
  isplitl [Hst]; · iexact Hst
  isplitl [HFX]; · iexact HFX
  isplitl [HW]; · iexact HW
  isplitl [HT1]; · iexact HT1
  isplitl [Hcr1]; · iexact Hcr1
  iintro  ⟨Hst, HA0, HT1, HW, HX, Hs31, Hxb⟩
  try dsimp only
  iapply step_bind
  iapply (part6 m ρ K c _)
  isplitr; · iexact Henv
  isplitl [Hst]; · iexact Hst
  isplitl [HT0]; · iexact HT0
  isplitl [HnA2]; · iexact HnA2
  isplitl [Hcr7]; · iexact Hcr7
  iintro  ⟨Hst, HB0, HT0, Hcr2⟩
  try dsimp only
  iapply step_bind
  iapply (part7 m ρ K c _ _)
  isplitr; · iexact Henv
  isplitl [Hst]; · iexact Hst
  isplitl [HT1]; · iexact HT1
  isplitl [HnB2]; · iexact HnB2
  iintro %a7_0 %a7_1 %a7_2 ⟨Hst, HT1, Hcr8, Hn2r⟩
  try dsimp only
  iapply step_bind
  iapply (part8 m ρ K c _ _ _)
  isplitr; · iexact Henv
  isplitl [Hst]; · iexact Hst
  isplitl [Hxb]; · iexact Hxb
  isplitl [HX]; · iexact HX
  isplitl [Hs31]; · iexact Hs31
  isplitl [HW]; · iexact HW
  isplitl [HT0]; · iexact HT0
  iintro  ⟨Hst, HT0, HW, HX, Hs31, Hxb⟩
  try dsimp only
  iapply step_bind
  iapply (part9 m ρ K c _)
  isplitr; · iexact Henv
  isplitl [Hst]; · iexact Hst
  isplitl [HT1]; · iexact HT1
  isplitl [Hcr2]; · iexact Hcr2
  isplitl [HT0]; · iexact HT0
  iintro  ⟨Hst, HA1, HA2, HT0, HT1⟩
  try dsimp only
  iapply step_bind
  iapply (part10 m ρ K c _ _)
  isplitr; · iexact Henv
  isplitl [Hst]; · iexact Hst
  isplitl [HA2]; · iexact HA2
  isplitl [HnA3]; · iexact HnA3
  isplitl [Hcr8]; · iexact Hcr8
  iintro  ⟨Hst, HB1, HB2, Hcr3⟩
  try dsimp only
  iapply step_bind
  iapply (part11 m ρ K c _ _)
  isplitr; · iexact Henv
  isplitl [Hst]; · iexact Hst
  isplitl [HB2]; · iexact HB2
  isplitl [HT1]; · iexact HT1
  isplitl [HnB3]; · iexact HnB3
  iintro %a11_0 %a11_1 ⟨Hst, HT1, Hcr9⟩
  try dsimp only
  iapply step_bind
  iapply (part12 m ρ K c _ _)
  isplitr; · iexact Henv
  isplitl [Hst]; · iexact Hst
  isplitl [Hxb]; · iexact Hxb
  isplitl [HX]; · iexact HX
  isplitl [Hs31]; · iexact Hs31
  isplitl [HW]; · iexact HW
  isplitl [HT0]; · iexact HT0
  iintro  ⟨Hst, HT0, HW, HX, Hs31, Hxb⟩
  try dsimp only
  iapply step_bind
  iapply (part13 m ρ K c _)
  isplitr; · iexact Henv
  isplitl [Hst]; · iexact Hst
  isplitl [Hxb]; · iexact Hxb
  isplitl [HX]; · iexact HX
  isplitl [Hs31]; · iexact Hs31
  isplitl [HW]; · iexact HW
  isplitl [HT1]; · iexact HT1
  isplitl [Hcr3]; · iexact Hcr3
  iintro  ⟨Hst, HA2, HT1, HW, HX, Hs31, Hxb⟩
  try dsimp only
  iapply step_bind
  iapply (part14 m ρ K c _)
  isplitr; · iexact Henv
  isplitl [Hst]; · iexact Hst
  isplitl [HT0]; · iexact HT0
  isplitl [Hcr9]; · iexact Hcr9
  iintro  ⟨Hst, HA3, HB2, HB3, HT0⟩
  try dsimp only
  iapply step_bind
  iapply (part15 m ρ K c _)
  isplitr; · iexact Henv
  isplitl [Hst]; · iexact Hst
  isplitl [HB3]; · iexact HB3
  isplitl [HT1]; · iexact HT1
  isplitl [HA3]; · iexact HA3
  isplitl [Hr0]; · iexact Hr0
  iintro %a15_0 %a15_1 %a15_2 %a15_3 ⟨Hst, HA3, HB3, HT1, Hr0⟩
  try dsimp only
  iapply step_bind
  iapply (part16 m ρ K c _ _ _ _ _)
  isplitr; · iexact Henv
  isplitl [Hst]; · iexact Hst
  isplitl [Hr0]; · iexact Hr0
  isplitl [Hn1r]; · iexact Hn1r
  isplitl [Hn2r]; · iexact Hn2r
  iintro %a16_0 %a16_1 %a16_2 ⟨Hst, Hcr25, Hcr26, Hrc⟩
  try dsimp only
  iapply step_bind
  iapply (part17 m ρ K c _ _ _)
  isplitr; · iexact Henv
  isplitl [Hst]; · iexact Hst
  isplitl [Hrc]; · iexact Hrc
  isplitl [Hn3r]; · iexact Hn3r
  isplitl [Hcr25]; · iexact Hcr25
  iintro %a17_0 ⟨Hst, Hcr27, Hr0⟩
  try dsimp only
  iapply step_bind
  iapply (part18 m ρ K c _ _)
  isplitr; · iexact Henv
  isplitl [Hst]; · iexact Hst
  isplitl [Hcr26]; · iexact Hcr26
  isplitl [Hcr27]; · iexact Hcr27
  isplitl [Hr0]; · iexact Hr0
  iintro  ⟨Hst, HM⟩
  try dsimp only
  iapply step_bind
  iapply (part19 m ρ K c _)
  isplitr; · iexact Henv
  isplitl [Hst]; · iexact Hst
  isplitl [HA3]; · iexact HA3
  isplitl [HQA0]; · iexact HQA0
  isplitl [HnQA1]; · iexact HnQA1
  isplitl [HB3]; · iexact HB3
  iintro  ⟨Hst, HA3, HB3, HQA0, Hcr13⟩
  try dsimp only
  iapply step_bind
  iapply (part20 m ρ K c _ _)
  isplitr; · iexact Henv
  isplitl [Hst]; · iexact Hst
  isplitl [HQB0]; · iexact HQB0
  isplitl [HnQB1]; · iexact HnQB1
  isplitl [HQA0]; · iexact HQA0
  isplitl [HA0]; · iexact HA0
  iintro %a20_0 %a20_1 %a20_2 %a20_3 ⟨Hst, HA0, HQA0, HQB0, Hcr19⟩
  try dsimp only
  iapply step_bind
  iapply (part21 m ρ K c _ _ _ _ _)
  isplitr; · iexact Henv
  isplitl [Hst]; · iexact Hst
  isplitl [HOL0]; · iexact HOL0
  isplitl [HA0]; · iexact HA0
  isplitl [Hs32]; · iexact Hs32
  isplitl [HQB0]; · iexact HQB0
  isplitl [HB0]; · iexact HB0
  iintro  ⟨Hst, HB0, HF32, HQB0⟩
  try dsimp only
  iapply step_bind
  iapply (part22 m ρ K c _)
  isplitr; · iexact Henv
  isplitl [Hst]; · iexact Hst
  isplitl [HOR0]; · iexact HOR0
  isplitl [HB0]; · iexact HB0
  isplitl [Hs36]; · iexact Hs36
  isplitl [Hcr13]; · iexact Hcr13
  iintro  ⟨Hst, HF36, HQA0l, HQA1⟩
  try dsimp only
  iapply step_bind
  iapply (part23 m ρ K c _)
  isplitr; · iexact Henv
  isplitl [Hst]; · iexact Hst
  isplitl [HQA1]; · iexact HQA1
  isplitl [HnQA2]; · iexact HnQA2
  isplitl [Hcr19]; · iexact Hcr19
  isplitl [HnQB2]; · iexact HnQB2
  iintro  ⟨Hst, HQA1, HQB0l, HQB1, Hcr14, Hcr20⟩
  try dsimp only
  iapply step_bind
  iapply (part24 m ρ K c _)
  isplitr; · iexact Henv
  isplitl [Hst]; · iexact Hst
  isplitl [HQA1]; · iexact HQA1
  isplitl [HA1]; · iexact HA1
  isplitl [HOL1]; · iexact HOL1
  isplitl [Hs33]; · iexact Hs33
  isplitl [HQB1]; · iexact HQB1
  isplitl [HB1]; · iexact HB1
  iintro  ⟨Hst, HB1, HF33, HQA1, HQB1⟩
  try dsimp only
  iapply step_bind
  iapply (part25 m ρ K c _ _ _)
  isplitr; · iexact Henv
  isplitl [Hst]; · iexact Hst
  isplitl [HB1]; · iexact HB1
  isplitl [HOR1]; · iexact HOR1
  isplitl [Hs37]; · iexact Hs37
  isplitl [Hcr14]; · iexact Hcr14
  iintro  ⟨Hst, HF37, HQA1l⟩
  try dsimp only
  iapply step_bind
  iapply (part26 m ρ K c _ _)
  isplitr; · iexact Henv
  isplitl [Hst]; · iexact Hst
  isplitl [HnQA3]; · iexact HnQA3
  isplitl [Hcr20]; · iexact Hcr20
  iintro  ⟨Hst, HQA2, HQB1l, Hcr15⟩
  try dsimp only
  iapply step_bind
  iapply (part27 m ρ K c _ _)
  isplitr; · iexact Henv
  isplitl [Hst]; · iexact Hst
  isplitl [HnQB3]; · iexact HnQB3
  isplitl [HQA2]; · iexact HQA2
  isplitl [HA2]; · iexact HA2
  iintro %a27_0 %a27_1 %a27_2 %a27_3 ⟨Hst, HA2, HQA2, HQB2, Hcr21⟩
  try dsimp only
  iapply step_bind
  iapply (part28 m ρ K c _ _ _ _ _)
  isplitr; · iexact Henv
  isplitl [Hst]; · iexact Hst
  isplitl [HOL2]; · iexact HOL2
  isplitl [HA2]; · iexact HA2
  isplitl [Hs34]; · iexact Hs34
  isplitl [HQB2]; · iexact HQB2
  isplitl [HB2]; · iexact HB2
  iintro  ⟨Hst, HB2, HF34, HQB2⟩
  try dsimp only
  iapply step_bind
  iapply (part29 m ρ K c _)
  isplitr; · iexact Henv
  isplitl [Hst]; · iexact Hst
  isplitl [HOR2]; · iexact HOR2
  isplitl [HB2]; · iexact HB2
  isplitl [Hs38]; · iexact Hs38
  isplitl [Hcr15]; · iexact Hcr15
  isplitl [Hcr21]; · iexact Hcr21
  iintro %a29_0 ⟨Hst, HF38, HQA2l, HQA3, HQB2l⟩
  try dsimp only
  iapply step_bind
  iapply (part30 m ρ K c _ _ _)
  isplitr; · iexact Henv
  isplitl [Hst]; · iexact Hst
  isplitl [HQA3]; · iexact HQA3
  isplitl [HA3]; · iexact HA3
  iintro  ⟨Hst, HA3, HQA3, HQB3⟩
  try dsimp only
  iapply step_bind
  iapply (part31 m ρ K c _)
  isplitr; · iexact Henv
  isplitl [Hst]; · iexact Hst
  isplitl [HOL3]; · iexact HOL3
  isplitl [HA3]; · iexact HA3
  isplitl [Hs35]; · iexact Hs35
  isplitl [HQB3]; · iexact HQB3
  isplitl [HB3]; · iexact HB3
  isplitl [HOR3]; · iexact HOR3
  isplitl [Hs39]; · iexact Hs39
  iintro  ⟨Hst, HF35, HF39, HQB3⟩
  try dsimp only
  iapply step_bind
  iapply (part32 m ρ K c )
  isplitr; · iexact Henv
  isplitl [Hst]; · iexact Hst
  isplitl [HF32]; · iexact HF32
  isplitl [HF36]; · iexact HF36
  isplitl [HF33]; · iexact HF33
  isplitl [HF37]; · iexact HF37
  isplitl [HF34]; · iexact HF34
  isplitl [HF38]; · iexact HF38
  iintro  ⟨Hst, HA0, HA1, HA2, HB0, HB1, HB2, HOL0, HOL1, HOL2, HOR0, HOR1, HOR2, Hs32, Hs33, Hs34, Hs36, Hs37, Hs38⟩
  try dsimp only
  simp only [Prog.bind_op, Prog.bind_ret]
  iapply (step_waitL m ρ K (n := 17) (w := 31) 35 (by decide) (by decide) rfl rfl) $$ [HF35 Hst]
  · isplitr; · iexact Henv
    isplitl [HF35]; · iexact HF35
    iexact Hst
  iintro ⟨⟨HOL3, HA3⟩, Hs35, Hst⟩
  iapply (step_waitL m ρ K (n := 17) (w := 31) 39 (by decide) (by decide) rfl rfl) $$ [HF39 Hst]
  · isplitr; · iexact Henv
    isplitl [HF39]; · iexact HF39
    iexact Hst
  iintro ⟨⟨HOR3, HB3⟩, Hs39, Hst⟩
  iapply (step_signal m ρ K (n := 17) (w := 31) ⟨3, 41, 0, true⟩ ⟨rfl, by decide, by decide⟩ (dev18_eq c) rfl rfl rfl rfl) $$ [Hst]
  · isplitr; · iexact Henv
    isplitr [Hst]
    · iapply (Entails.of_eq (show iprop(emp) = payK m ρ _ 41 _ from rfl)); iempintro
    · iexact Hst
  iintro Hst
  iapply step_ret
  iapply Hk
  isplitl [Hst]; · iexact Hst
  isplitl [HA0]; · iexact HA0
  isplitl [HB0]; · iexact HB0
  isplitl [HQA0]; · iexact HQA0
  isplitl [HQB0]; · iexact HQB0
  isplitl [HOL0]; · iexact HOL0
  isplitl [HOR0]; · iexact HOR0
  isplitl [HA1]; · iexact HA1
  isplitl [HB1]; · iexact HB1
  isplitl [HQA1]; · iexact HQA1
  isplitl [HQB1]; · iexact HQB1
  isplitl [HOL1]; · iexact HOL1
  isplitl [HOR1]; · iexact HOR1
  isplitl [HA2]; · iexact HA2
  isplitl [HB2]; · iexact HB2
  isplitl [HQA2]; · iexact HQA2
  isplitl [HQB2]; · iexact HQB2
  isplitl [HOL2]; · iexact HOL2
  isplitl [HOR2]; · iexact HOR2
  isplitl [HA3]; · iexact HA3
  isplitl [HB3]; · iexact HB3
  isplitl [HQA3]; · iexact HQA3
  isplitl [HQB3]; · iexact HQB3
  isplitl [HOL3]; · iexact HOL3
  isplitl [HOR3]; · iexact HOR3
  isplitl [HT0]; · iexact HT0
  isplitl [HT1]; · iexact HT1
  isplitl [Hxb]; · iexact Hxb
  isplitl [HX]; · iexact HX
  isplitl [HW]; · iexact HW
  isplitl [Hs31]; · iexact Hs31
  isplitl [Hs32]; · iexact Hs32
  isplitl [Hs33]; · iexact Hs33
  isplitl [Hs34]; · iexact Hs34
  isplitl [Hs35]; · iexact Hs35
  isplitl [Hs36]; · iexact Hs36
  isplitl [Hs37]; · iexact Hs37
  isplitl [Hs38]; · iexact Hs38
  isplitl [Hs39]; · iexact Hs39
  isplitl [HM]; · iexact HM
  isplitl [HQA0l]; · iexact HQA0l
  isplitl [HQB0l]; · iexact HQB0l
  isplitl [HQA1l]; · iexact HQA1l
  isplitl [HQB1l]; · iexact HQB1l
  isplitl [HQA2l]; · iexact HQA2l
  iexact HQB2l

/-- The body: from what the device starts with to what it ends with. -/
theorem body (c : Dev nD) {Q : _ → sProp 𝕄} :
    iprop(env m ρ K ∗ st c 0 0 ∗ begun m ρ c ∗ ((st c 19 32 ∗ ended m ρ c) -∗ Q ⟨⟩))
      ⊢ WP (F := F) c (cc0_body mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0) Q := by
  iintro ⟨#Henv, Hst, Hb, Hk⟩
  rw [cc0_body_eq_skeleton]
  unfold cc0_body_skel
  simp only [semSignalWord, semWaitWord, Prog.lift, Prog.pure_eq_ret]
  iapply step_bind
  iapply (part33 m ρ K c)
  isplitr; · iexact Henv
  isplitl [Hst]; · iexact Hst
  isplitl [Hb]; · iexact Hb
  iintro %a ⟨Hst, He⟩
  dsimp only
  simp only [Prog.bind_op, Prog.bind_ret]
  iapply (step_signal m ρ K (n := 18) (w := 31) ⟨1, 41, 0, false⟩ ⟨rfl, by decide, by decide⟩ (dev19_eq c) rfl rfl rfl rfl) $$ [Hst]
  · isplitr; · iexact Henv
    isplitr [Hst]
    · iapply (Entails.of_eq (show iprop(emp) = payK m ρ _ 41 _ from rfl)); iempintro
    · iexact Hst
  iintro Hst
  iapply (step_waitReg m ρ K (n := 19) (w := 31) 41 ⟨rfl, rfl, by decide, by decide, by decide⟩ rfl (by decide) rfl rfl) $$ [Hst]
  · isplitr; · iexact Henv
    iexact Hst
  iintro ⟨-, Hst⟩
  iapply step_ret
  iapply Hk
  isplitl [Hst]; · iexact Hst
  iexact He

end Cert.KernelIdealProof

end
-- ==== Proof.KernelIdeal.Deal.lean ====
/-
# What the launch deals the devices

The ring's cells and duty tokens at launch, dealt so that every device holds the tokens of the payments it makes, its
positions at the cells it waits on and the credit of those that others pay.
-/
module

public import proofs.«01_k».proof.Proof.KernelIdeal.Common
public import Idealize.ShloMosaic.Lib.Pipeline.BigSepL
public import Idealize.ShloMosaic.Lib.Pipeline.CollectiveSegs

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists -/

/-- A chain over a list, numbered. -/
theorem bigSep_list {β : Type} {n : ℕ} (g : Fin n → β) (l : List β) (h : (List.finRange n).map g = l) (Φ : β → sProp 𝕄) :
    BI.bigSep Finset.univ (fun i => Φ (g i)) = bigSepL l Φ := by
  rw [bigSep_univ_eq_bigSepL (List.finRange n) (by ext i; simp) (List.nodup_finRange n), ← h, bigSepL_map]

/-- The tokens of the payments: how far right the cell's device is, the cell, the duty. -/
def tkL (p : Pay) : List (ℕ × ℕ × Bool) := (p.j, p.k, p.d) :: if p.k₁ = 0 then [] else [(0, p.k₁, false)]
def tks : List (ℕ × ℕ × Bool) := pays.flatMap tkL
def tk (i : Fin 34) : ℕ × ℕ × Bool := tks.getD i.val (0, 0, false)
def tkAt (c : Dev nD) (t : ℕ × ℕ × Bool) : GSem nD τ sig × ℕ × Bool := (cellAt (sh c t.1) t.2.1, 0, t.2.2)
abbrev tok (x : GSem nD τ sig × ℕ × Bool) : sProp 𝕄 := dutyTok ER x.1 x.2.1 x.2.2

theorem sh_zero (c : Dev nD) : sh c 0 = c := by revert c; decide
theorem sh_cancel {c c' : Dev nD} {j : ℕ} (h : sh c j = sh c' j) : c = c' := by
  have h' : (c.val + j) % 4 = (c'.val + j) % 4 := congrArg Fin.val h
  have hc : c.val < 4 := c.isLt
  have hc' : c'.val < 4 := c'.isLt
  exact Fin.ext (by omega)

theorem map_tk : (List.finRange 34).map tk = tks := by decide +kernel
theorem map_kk : (List.finRange 32).map kk = wlist := by decide +kernel
theorem kk_lt : ∀ i : Fin 32, kk i < 42 := by decide +kernel
theorem kk_inj : ∀ i j : Fin 32, kk i = kk j → i = j := by decide +kernel
theorem tk_lt : ∀ i : Fin 34, (tk i).2.1 < 42 := by decide +kernel
theorem tk_inj : ∀ i j : Fin 34, (tk i).2 = (tk j).2 → i = j := by decide +kernel

/-- The tokens of a list of payments are the payments' tokens. -/
theorem lnks_of (c : Dev nD) (ps : List Pay) : bigSepL (ps.flatMap tkL) (fun t => tok (F := F) (tkAt c t)) ⊢ lnks c ps := by
  induction ps with
  | nil => exact .rfl
  | cons p ps ih =>
    rw [List.flatMap_cons, bigSepL_append, lnks_cons]
    refine BI.sep_mono ?_ ih
    unfold tkL
    rw [bigSepL_cons']
    refine BI.sep_mono (BI.Entails.refl _) ?_
    by_cases h : p.k₁ = 0
    · rw [if_pos h, if_pos h]; exact BI.Entails.refl _
    · rw [if_neg h, if_neg h, bigSepL_singleton]
      show dutyTok ER (cellAt (sh c 0) p.k₁) 0 false ⊢ _
      rw [sh_zero]

theorem wts_of (c : Dev nD) (ks : List ℕ) : (bigSepL ks (wt (F := F) c)) = wts c ks := by
  induction ks with
  | nil => rfl
  | cons k ks ih => rw [bigSepL_cons', ih]; rfl

/-- A cell's counter at zero. -/
abbrev sv (c : Dev nD) (k : ℕ) : sProp 𝕄 := semVal (cellAt c k) 0
/-- The local copies' counters. -/
def locals (c : Dev nD) : sProp 𝕄 := bigSepL [31, 32, 33, 34, 35, 36, 37, 38, 39] (sv (F := F) c)

theorem zs_of (c : Dev nD) (n : ℕ) : zs (F := F) c n ⊢ bigSepL ((List.range n).map (wlist.getD · 0)) (sv c) := by
  induction n with
  | zero => exact .rfl
  | succ n ih =>
    rw [List.range_succ, List.map_append, bigSepL_append]
    exact BI.sep_mono ih (BI.Entails.refl _)

/-! ## The kernel's own semaphores -/

def olist : List ℕ := wlist.drop 1 ++ [31, 32, 33, 34, 35, 36, 37, 38, 39]
/-- The kernel's own semaphores: all but the runtime's barrier and the staging copy's. -/
abbrev osem (i : Fin 40) : SemLoc sig := smOf (olist.getD i.val 0)
theorem map_osem : (List.finRange 40).map (fun i => olist.getD i.val 0) = olist := by decide +kernel

theorem ownSemFacts : Pipeline.OwnSemFacts cfg0.spec osem := by decide +kernel

theorem sems0_eq (c : Dev nD) :
    iprop(unscopedSems0 c ∗ Pipeline.ownSems0 (Ix := Unit) (Name := ℕ) (U := UU) (Lvl := ℕ) (Val := Elt F) (τ := τ) osem c)
      = iprop(bigSepL wlist (sv (F := F) c) ∗ locals c) := by
  have ho : (Pipeline.ownSems0 (Ix := Unit) (Name := ℕ) (U := UU) (Lvl := ℕ) (Val := Elt F) (τ := τ) osem c : sProp 𝕄)
      = iprop(bigSepL (wlist.drop 1) (sv (F := F) c) ∗ locals c) := by
    unfold locals
    rw [← bigSepL_append]
    exact bigSep_list _ _ map_osem (sv (F := F) c)
  have hu : (unscopedSems0 c : sProp 𝕄) = sv c 40 := by
    unfold unscopedSems0; rw [bigSep_eq_bigSepL_of_eq [SemLoc.reg (0 : Sem sig)] (by decide) (by decide)]; rfl
  rw [ho, hu]
  refine Entails.antisymm ?_ ?_
  · show iprop(sv c 40 ∗ bigSepL (wlist.drop 1) (sv (F := F) c) ∗ locals c) ⊢ iprop(bigSepL (40 :: wlist.drop 1) (sv (F := F) c) ∗ locals c)
    rw [bigSepL_cons']
    iintro ⟨H, Hr, Hl⟩
    isplitl [H Hr]; · isplitl [H] <;> iassumption
    iexact Hl
  · show iprop(bigSepL (40 :: wlist.drop 1) (sv (F := F) c) ∗ locals c) ⊢ iprop(sv c 40 ∗ bigSepL (wlist.drop 1) (sv (F := F) c) ∗ locals c)
    rw [bigSepL_cons']
    iintro ⟨⟨H, Hr⟩, Hl⟩
    isplitl [H]; · iexact H
    isplitl [Hr] <;> iassumption

/-! ## The ring's ghost state -/

abbrev kcell (ck : Dev nD × Fin 32) : GSem nD τ sig := cellAt ck.1 (kk ck.2)
theorem kcell_injective : Function.Injective kcell := by
  rintro ⟨c, i⟩ ⟨c', i'⟩ h
  have h1 : c = c' := congrArg (fun g : GSem nD τ sig => g.1.1) h
  have h2 : kk i = kk i' := by
    have := congrArg (fun g : GSem nD τ sig => kOf g.2) h
    rwa [show kOf (kcell (c, i)).2 = kk i from kOf_smOf _ (kk_lt i), show kOf (kcell (c', i')).2 = kk i' from kOf_smOf _ (kk_lt i')] at this
  rw [h1, kk_inj _ _ h2]
def ringCells : Finset (GSem nD τ sig) := Finset.univ.map ⟨kcell, kcell_injective⟩

abbrev tokOf (cj : Dev nD × Fin 34) : GSem nD τ sig × ℕ × Bool := tkAt cj.1 (tk cj.2)
theorem tokOf_injective : Function.Injective tokOf := by
  rintro ⟨c, i⟩ ⟨c', i'⟩ h
  have hk : (tk i).2.1 = (tk i').2.1 := by
    have := congrArg (fun x : GSem nD τ sig × ℕ × Bool => kOf x.1.2) h
    rwa [show kOf (tokOf (c, i)).1.2 = (tk i).2.1 from kOf_smOf _ (tk_lt i), show kOf (tokOf (c', i')).1.2 = (tk i').2.1 from kOf_smOf _ (tk_lt i')] at this
  have hd : (tk i).2.2 = (tk i').2.2 := congrArg (fun x : GSem nD τ sig × ℕ × Bool => x.2.2) h
  have hi : i = i' := tk_inj _ _ (Prod.ext hk hd)
  subst hi
  have hc : sh c (tk i).1 = sh c' (tk i).1 := congrArg (fun x : GSem nD τ sig × ℕ × Bool => x.1.1.1) h
  rw [sh_cancel hc]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- What the launch element deals device `c`; -/
def G (c : Dev nD) : sProp 𝕄 :=
  iprop((BI.bigSep Finset.univ fun i : Fin 32 => roundState ER (sched m ρ) (kcell (c, i)) 0)
    ∗ (BI.bigSep Finset.univ fun i : Fin 32 => iprop(atPos ER (kcell (c, i)) 0 ∅ 0 ∗ reached ER (kcell (c, i)) 0))
    ∗ BI.bigSep Finset.univ fun j : Fin 34 => tok (F := F) (tokOf (c, j)))
/-- what is its alone of that, with its local copies' counters; -/
def linear (c : Dev nD) : sProp 𝕄 :=
  iprop((BI.bigSep Finset.univ fun i : Fin 32 => atPos ER (kcell (c, i)) 0 ∅ 0) ∗ lnks c pays ∗ locals c)
/-- and what it has once the cells' invariants are made. -/
def G' (c : Dev nD) : sProp 𝕄 :=
  iprop(∃ K : Dev nD × Fin 32 → ℕ, (BI.bigSep Finset.univ fun ck : Dev nD × Fin 32 => cellFact m ρ (K ck) ck.1 (kk ck.2)) ∗ linear c)

theorem fund_ring : BI.own (ER (initOf ringCells ringToks)) ⊢ (|==> BI.bigSep Finset.univ (G m ρ) : sProp 𝕄) := by
  have hX (Φ : GSem nD τ sig → sProp 𝕄) : BI.bigSep ringCells Φ = BI.bigSep Finset.univ fun c : Dev nD => BI.bigSep Finset.univ fun i : Fin 32 => Φ (kcell (c, i)) := by
    unfold ringCells; rw [bigSep_map, bigSep_univ_prod]; rfl
  have hT : BI.bigSep ringToks (fun x => tok (F := F) x) = BI.bigSep Finset.univ fun c : Dev nD => BI.bigSep Finset.univ fun j : Fin 34 => tok (F := F) (tokOf (c, j)) := by
    unfold ringToks; rw [bigSep_map, bigSep_univ_prod]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((BI.bigSep Finset.univ fun i => iprop(∃ κ : ℕ, cellInv ER (sched m ρ) κ (kcell (c, i))))
          ∗ (BI.bigSep Finset.univ fun i => reached ER (kcell (c, i)) 0) ∗ linear c) := by
  have hv : (bigSepL wlist (sv (F := F) c)) = BI.bigSep Finset.univ fun i : Fin 32 => semVal (kcell (c, i)) 0 := (bigSep_list kk wlist map_kk (sv (F := F) c)).symm
  have ht : (BI.bigSep Finset.univ fun j : Fin 34 => tok (F := F) (tokOf (c, j))) ⊢ lnks c pays :=
    (Entails.of_eq (bigSep_list tk tks map_tk fun t => tok (F := F) (tkAt c t))).trans (lnks_of c pays)
  have ha : iprop((BI.bigSep Finset.univ fun i : Fin 32 => semVal (kcell (c, i)) 0) ∗ BI.bigSep Finset.univ fun i : Fin 32 => roundState ER (sched m ρ) (kcell (c, i)) 0)
      ⊢ (|={Set.univ}=> BI.bigSep Finset.univ fun i => iprop(∃ κ : ℕ, cellInv ER (sched m ρ) κ (kcell (c, i))) : sProp 𝕄) := by
    rw [← bigSep_sep']
    exact (bigSep_mono fun i _ => (Rounds.body_intro ER (sched m ρ) (kcell (c, i))).trans inv_alloc).trans (bigSep_fupd _ _)
  unfold G linear
  iintro ⟨Hos, Hus, Hst, Hat, Htok⟩
  ihave Hv := (Entails.of_eq (sems0_eq (F := F) c)) $$ [Hos Hus]
  · isplitl [Hus] <;> iassumption
  icases Hv with ⟨Hv, Hl⟩
  ihave Hv := (Entails.of_eq hv) $$ Hv
  imod ha $$ [Hv Hst] with Hinv
  · isplitl [Hv] <;> iassumption
  imodintro
  ihave Hat := (Entails.of_eq (bigSep_sep' Finset.univ (fun i : Fin 32 => (atPos ER (kcell (c, i)) 0 ∅ 0 : sProp 𝕄)) (fun i => reached ER (kcell (c, i)) 0))) $$ Hat
  icases Hat with ⟨Hat, Hr⟩
  isplitl [Hinv]; · iexact Hinv
  isplitl [Hr]; · iexact Hr
  isplitl [Hat]; · iexact Hat
  isplitl [Htok]; · iapply ht; iexact Htok
  iexact Hl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ BI.bigSep S Φ) ⊢ BI.bigSep S Ψ :=
  (sep_mono_left (BI.bigSep_of_persistent S R)).trans (by rw [← bigSep_sep']; exact bigSep_mono h)

/-- Everybody knows every cell's invariant. -/
theorem regroup :
    (BI.bigSep Finset.univ fun c : Dev nD => iprop((BI.bigSep Finset.univ fun i => iprop(∃ κ : ℕ, cellInv ER (sched m ρ) κ (kcell (c, i))))
          ∗ (BI.bigSep Finset.univ fun i => reached ER (kcell (c, i)) 0) ∗ linear c) : sProp 𝕄)
      ⊢ BI.bigSep Finset.univ (G' m ρ) := by
  have hG (K : Dev nD × Fin 32 → ℕ) (c : Dev nD) :
      iprop((BI.bigSep Finset.univ fun ck : Dev nD × Fin 32 => cellFact m ρ (K ck) ck.1 (kk ck.2)) ∗ linear c) ⊢ G' m ρ c := by
    unfold G'
    iintro ⟨H, Hl⟩
    iexists K
    isplitl [H] <;> iassumption
  have hF (K : Dev nD × Fin 32 → ℕ) : iprop((BI.bigSep Finset.univ fun ck : Dev nD × Fin 32 => cellInv ER (sched m ρ) (K ck) (kcell ck))
      ∗ BI.bigSep Finset.univ fun ck : Dev nD × Fin 32 => reached ER (kcell ck) 0)
      ⊢ (BI.bigSep Finset.univ fun ck : Dev nD × Fin 32 => cellFact m ρ (K ck) ck.1 (kk ck.2) : sProp 𝕄) := by
    unfold cellFact
    rw [bigSep_sep']
  rw [bigSep_sep', bigSep_sep', ← bigSep_univ_prod (fun ck : Dev nD × Fin 32 => iprop(∃ κ : ℕ, cellInv ER (sched m ρ) κ (kcell ck))),
    ← bigSep_univ_prod (fun ck : Dev nD × Fin 32 => (reached ER (kcell ck) 0 : sProp 𝕄))]
  iintro ⟨HI, HR, Hl⟩
  ihave HK := (BI.bigSep_exists_pi Finset.univ (fun (ck : Dev nD × Fin 32) (κ : ℕ) => (cellInv ER (sched m ρ) κ (kcell ck) : sProp 𝕄))) $$ HI
  icases HK with ⟨%K, HI⟩
  iapply (bigSep_with_persistent (R := BI.bigSep Finset.univ fun ck : Dev nD × Fin 32 => cellFact m ρ (K ck) ck.1 (kk ck.2)) fun c _ => hG K c)
  isplitl [HI HR]
  · iapply (hF K); isplitl [HI] <;> iassumption
  iexact Hl

/-- The step all devices make together before they start. -/
theorem glob : (BI.bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> BI.bigSep Finset.univ (G' m ρ) :=
  ((bigSep_mono fun c _ => core_alloc m ρ c).trans (bigSep_fupd _ _)).trans (BI.fupd_mono (regroup m ρ))

/-! ## The credit -/

theorem cell_eq_iff {a b : Dev nD} {k k' : ℕ} (h : k < 42) (h' : k' < 42) : cellAt a k = cellAt b k' ↔ a = b ∧ k = k' := by
  constructor
  · intro e
    refine ⟨congrArg (fun g : GSem nD τ sig => g.1.1) e, ?_⟩
    have := congrArg (fun g : GSem nD τ sig => kOf g.2) e
    rwa [show kOf (cellAt a k).2 = k from kOf_smOf _ h, show kOf (cellAt b k').2 = k' from kOf_smOf _ h'] at this
  · rintro ⟨rfl, rfl⟩; rfl

/-- All devices together owe a cell as many amounts as the list has payments to it. -/
theorem debt_sum (c : Dev nD) {k : ℕ} (hk : k < 42) (ps : List Pay) (h : ∀ p ∈ ps, p.k < 42) :
    (∑ d : Dev nD, debtL d ps (cellAt c k) ()) = (ps.filter fun p => p.k == k).length * amtK k := by
  induction ps with
  | nil => simp only [debtL, List.filter_nil, List.length_nil, Nat.zero_mul]; exact Finset.sum_const_zero
  | cons p ps ih =>
    have hp := h p List.mem_cons_self
    have hone : (∑ d : Dev nD, (tallyAt (cellAt (sh d p.j) p.k) () (amtK p.k) : CellTallies nD τ sig Unit) (cellAt c k) ()) = if p.k = k then amtK k else 0 := by
      by_cases e : p.k = k
      · rw [if_pos e]
        subst e
        have hj : ∃ d : Dev nD, sh d p.j = c := by
          refine ⟨⟨(c.val + (4 - p.j % 4)) % 4, Nat.mod_lt _ (by decide)⟩, Fin.ext ?_⟩
          have hc : c.val < 4 := c.isLt
          simp only [sh]; omega
        obtain ⟨d₀, rfl⟩ := hj
        rw [Finset.sum_eq_single d₀]
        · rw [tallyAt_apply, if_pos ⟨rfl, rfl⟩]
        · intro d _ hd
          rw [tallyAt_apply, if_neg]
          rintro ⟨e, -⟩
          exact hd (sh_cancel ((cell_eq_iff hp hp).mp e).1.symm)
        · intro hn; exact absurd (Finset.mem_univ _) hn
      · rw [if_neg e]
        refine Finset.sum_eq_zero fun d _ => ?_
        rw [tallyAt_apply, if_neg]
        rintro ⟨e', -⟩
        exact e ((cell_eq_iff hk hp).mp e').2.symm
    have := ih fun p hp => h p (List.mem_cons_of_mem _ hp)
    simp only [debtL, Pi.add_apply, Finsupp.add_apply]
    rw [Finset.sum_add_distrib, this, hone, List.filter_cons]
    by_cases e : p.k = k
    · rw [if_pos e, if_pos (beq_iff_eq.mpr e), List.length_cons, Nat.succ_mul]
    · rw [if_neg e, if_neg (by simpa using e), Nat.add_zero]

theorem recv_count : ∀ i : Fin 32, isRecv (kk i) = true → (pays.filter fun p => p.k == kk i).length = if 40 ≤ kk i then 2 else 1 := by decide +kernel

theorem launch_cell (c : Dev nD) (i : Fin 32) (h : isRecv (kk i) = true) :
    tallyOn (kcell (c, i)) (launchCredit (Pipeline.owing fun d => debt d 0) 0 (kcell (c, i))) = (tallyAt (kcell (c, i)) () (totK (kk i)) : CellTallies nD τ sig Unit) := by
  unfold tallyAt; refine congrArg _ (Finsupp.ext fun u => ?_); cases u
  rw [Pipeline.launchCredit_owing, Finsupp.single_eq_same]
  show (∑ d : Dev nD, debtL d pays (cellAt c (kk i)) ()) = _
  rw [debt_sum c (kk_lt i) pays pays_lt, recv_count i h]
  unfold totK
  by_cases h40 : 40 ≤ kk i
  · rw [if_pos h40, if_pos h40]; unfold amtK; rw [if_pos h40]
  · rw [if_neg h40, if_neg h40, Nat.one_mul]

theorem smOf_kk_injective : Function.Injective fun i : Fin 32 => smOf (kk i) := fun i j h => by
  refine kk_inj _ _ ?_
  have := congrArg kOf h
  rwa [kOf_smOf _ (kk_lt i), kOf_smOf _ (kk_lt j)] at this

/-- The launch's credit and a device's positions are what it waits with. -/
theorem creds (c : Dev nD) :
    iprop(Pipeline.launchCred (fun d => debt d 0) c ∗ BI.bigSep Finset.univ fun i : Fin 32 => atPos ER (kcell (c, i)) 0 ∅ 0) ⊢ (wts c wlist : sProp 𝕄) := by
  have hd (P : sProp 𝕄) : P ⊢ iprop(emp) := by iintro -; iempintro
  have h₁ : (Pipeline.launchCred (fun d => debt d 0) c : sProp 𝕄)
      ⊢ BI.bigSep Finset.univ fun i : Fin 32 => if isRecv (kk i) = true then cred (tallyAt (cellAt c (kk i)) () (totK (kk i))) else iprop(emp) := by
    unfold Pipeline.launchCred
    refine (bigSep_subset (Finset.subset_univ (Finset.univ.map ⟨fun i : Fin 32 => smOf (kk i), smOf_kk_injective⟩))).trans ?_
    rw [bigSep_map]
    refine bigSep_mono fun i _ => ?_
    by_cases h : isRecv (kk i) = true
    · rw [if_pos h]; exact Entails.of_eq (congrArg cred (launch_cell c i h))
    · rw [if_neg h]; exact hd _
  have h₂ : (BI.bigSep Finset.univ fun i : Fin 32 => wt (F := F) c (kk i)) = wts c wlist :=
    (bigSep_list kk wlist map_kk (wt (F := F) c)).trans (wts_of c wlist)
  rw [← h₂]
  unfold wt
  rw [bigSep_sep']
  iintro ⟨H, Hat⟩
  isplitl [Hat]; · iexact Hat
  iapply h₁; iexact H

end Cert.KernelIdealProof

end
-- ==== Proof.KernelIdeal.Launch.lean ====
/-
# The run

The launch of the four devices' bodies, and what every run of the program ends with.
-/
module

public import proofs.«01_k».proof.Proof.KernelIdeal.Body
public import proofs.«01_k».proof.Proof.KernelIdeal.Deal

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The body's scratch buffers, at some contents. -/
def scratch (c : Dev nD) : sProp 𝕄 :=
  iprop(any (F := F) c mXb ∗ any (F := F) c mA ∗ any (F := F) c mB ∗ any (F := F) c mQA ∗ any (F := F) c mQB ∗ any (F := F) c mT ∗ any (F := F) c mM)

theorem any_whole (c : Dev nD) (b : Ref sig .tc) :
    any (F := F) c (Memref.whole b) = iprop(∃ f : Buf (Elt F) ((c : Thread nD τ).loc b), ((c : Thread nD τ).loc b) ↦{fullShare} f) :=
  (Memref.isWhole_whole b).exists_owns_eq fullShare

theorem scratch_eq (c : Dev nD) : (Pipeline.scopedRest cfg0.spec c : sProp 𝕄) = scratch c := by
  unfold scratch
  rw [scopedRest0_eq]
  rw [← any_whole c cc0_scratch0, ← any_whole c cc0_scratch1, ← any_whole c cc0_scratch2, ← any_whole c cc0_scratch3,
    ← any_whole c cc0_scratch4, ← any_whole c cc0_scratch5, ← any_whole c cc0_scratch6]
  rfl

/-- What the body of device `c` starts from, its window apart; -/
def start (c : Dev nD) : sProp 𝕄 :=
  iprop((∃ K, env m ρ K ∗ lnks c pays ∗ wts c wlist ∗ locals c) ∗ own c mX fullShare (xg m c) ∗ any (F := F) c mO)
def Φ₀ (c : Dev nD) : sProp 𝕄 := iprop(start m ρ c ∗ scratch c)
/-- and what it ends with: the result whole, every counter at zero. -/
def Φ₁ (c : Dev nD) : sProp 𝕄 :=
  iprop((own c mX fullShare (xg m c) ∗ own c mO fullShare (outF m ρ)) ∗ (bigSepL wlist (sv (F := F) c) ∗ locals c) ∗ scratch c)

theorem locals_eq (c : Dev nD) : locals (F := F) c
    = iprop(sv c 31 ∗ sv c 32 ∗ sv c 33 ∗ sv c 34 ∗ sv c 35 ∗ sv c 36 ∗ sv c 37 ∗ sv c 38 ∗ sv c 39) := rfl

theorem begun_intro (c : Dev nD) :
    iprop(own c mX fullShare (xg m c) ∗ any (F := F) c mO ∗ locals c ∗ scratch c ∗ own c mW fullShare (wg m ρ c)) ⊢ begun m ρ c := by
  unfold scratch begun
  rw [locals_eq]
  iintro ⟨HX, HO, ⟨Hs31, Hs32, Hs33, Hs34, Hs35, Hs36, Hs37, Hs38, Hs39⟩, ⟨Hxb, HA, HB, HQA, HQB, HT, HM⟩, HW⟩
  ihave H' := (out_split c) $$ HO
  icases H' with ⟨HOL0, HOR0, HOL1, HOR1, HOL2, HOR2, HOL3, HOR3⟩
  ihave H' := (slots_split c mA) $$ HA
  icases H' with ⟨HA0, HA1, HA2, HA3⟩
  ihave H' := (slots_split c mB) $$ HB
  icases H' with ⟨HB0, HB1, HB2, HB3⟩
  ihave H' := (slots_split c mQA) $$ HQA
  icases H' with ⟨HQA0, HQA1, HQA2, HQA3⟩
  ihave H' := (slots_split c mQB) $$ HQB
  icases H' with ⟨HQB0, HQB1, HQB2, HQB3⟩
  ihave H' := (tiles_split c) $$ HT
  icases H' with ⟨HT0, HT1⟩
  ihave H' := (rows_split c) $$ HM
  icases H' with ⟨Hr0, Hr3, Hr2, Hr1⟩
  ihave Hxb := (xb_split c) $$ Hxb
  isplitl [HA0]; · iexact HA0
  isplitl [HB0]; · iexact HB0
  isplitl [HQA0]; · iexact HQA0
  isplitl [HQB0]; · iexact HQB0
  isplitl [HOL0]; · iexact HOL0
  isplitl [HOR0]; · iexact HOR0
  isplitl [HA1]; · iexact HA1
  isplitl [HB1]; · iexact HB1
  isplitl [HQA1]; · iexact HQA1
  isplitl [HQB1]; · iexact HQB1
  isplitl [HOL1]; · iexact HOL1
  isplitl [HOR1]; · iexact HOR1
  isplitl [HA2]; · iexact HA2
  isplitl [HB2]; · iexact HB2
  isplitl [HQA2]; · iexact HQA2
  isplitl [HQB2]; · iexact HQB2
  isplitl [HOL2]; · iexact HOL2
  isplitl [HOR2]; · iexact HOR2
  isplitl [HA3]; · iexact HA3
  isplitl [HB3]; · iexact HB3
  isplitl [HQA3]; · iexact HQA3
  isplitl [HQB3]; · iexact HQB3
  isplitl [HOL3]; · iexact HOL3
  isplitl [HOR3]; · iexact HOR3
  isplitl [Hr0]; · iexact Hr0
  isplitl [Hr1]; · iexact Hr1
  isplitl [Hr2]; · iexact Hr2
  isplitl [Hr3]; · iexact Hr3
  isplitl [HT0]; · iexact HT0
  isplitl [HT1]; · iexact HT1
  isplitl [Hxb]; · iexact Hxb
  isplitl [HX]; · iexact HX
  isplitl [HW]; · iexact HW
  isplitl [Hs31]; · iexact Hs31
  isplitl [Hs32]; · iexact Hs32
  isplitl [Hs33]; · iexact Hs33
  isplitl [Hs34]; · iexact Hs34
  isplitl [Hs35]; · iexact Hs35
  isplitl [Hs36]; · iexact Hs36
  isplitl [Hs37]; · iexact Hs37
  isplitl [Hs38]; · iexact Hs38
  iexact Hs39

theorem own_any (c : Dev nD) {sp : Space} {s : Shape} {e : EltTy} (a : Memref sig .tc sp s e) (X : s.Idx → Elt F e) :
    own c a fullShare X ⊢ any (F := F) c a := by
  iintro H; iexists X; iexact H
theorem halves_any (c : Dev nD) {sp : Space} {s : Shape} {e : EltTy} (a : Memref sig .tc sp s e) (X : s.Idx → Elt F e) :
    iprop(own c a fullShare.left X ∗ own c a fullShare.right X) ⊢ any (F := F) c a :=
  .trans (owns_halves (c : Thread nD τ) a fullShare X).2 (own_any c a X)

theorem ended_elim (c : Dev nD) :
    ended m ρ c ⊢ iprop((own c mX fullShare (xg m c) ∗ own c mO fullShare (outF m ρ)) ∗ locals c ∗ scratch c ∗ own c mW fullShare (wg m ρ c)) := by
  unfold scratch ended
  rw [locals_eq]
  iintro ⟨HA0, HB0, HQA0, HQB0, HOL0, HOR0, HA1, HB1, HQA1, HQB1, HOL1, HOR1, HA2, HB2, HQA2, HQB2, HOL2, HOR2, HA3, HB3, HQA3, HQB3, HOL3, HOR3, HT0, HT1, Hxb, HX, HW, Hs31, Hs32, Hs33, Hs34, Hs35, Hs36, Hs37, Hs38, Hs39, HM, HQA0l, HQB0l, HQA1l, HQB1l, HQA2l, HQB2l⟩
  isplitl [HX HOL0 HOR0 HOL1 HOR1 HOL2 HOR2 HOL3 HOR3]
  · isplitl [HX]; · iexact HX
    iapply (out_join m ρ c)
    isplitl [HOL0]; · iexact HOL0
    isplitl [HOR0]; · iexact HOR0
    isplitl [HOL1]; · iexact HOL1
    isplitl [HOR1]; · iexact HOR1
    isplitl [HOL2]; · iexact HOL2
    isplitl [HOR2]; · iexact HOR2
    isplitl [HOL3]; · iexact HOL3
    iexact HOR3
  isplitl [Hs31 Hs32 Hs33 Hs34 Hs35 Hs36 Hs37 Hs38 Hs39]
  · isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    iexact Hs39
  isplitr [HW]
  · isplitl [Hxb]; · iapply (xb_join c); iapply (own_any c xb _); iexact Hxb
    isplitl [HA0 HA1 HA2 HA3]
    · iapply (slots_join c mA)
      isplitl [HA0]; · iapply (own_any c A0 _); iexact HA0
      isplitl [HA1]; · iapply (own_any c A1 _); iexact HA1
      isplitl [HA2]; · iapply (own_any c A2 _); iexact HA2
      iapply (own_any c A3 _); iexact HA3
    isplitl [HB0 HB1 HB2 HB3]
    · iapply (slots_join c mB)
      isplitl [HB0]; · iapply (own_any c B0 _); iexact HB0
      isplitl [HB1]; · iapply (own_any c B1 _); iexact HB1
      isplitl [HB2]; · iapply (own_any c B2 _); iexact HB2
      iapply (own_any c B3 _); iexact HB3
    isplitl [HQA0 HQA0l HQA1 HQA1l HQA2 HQA2l HQA3]
    · iapply (slots_join c mQA)
      isplitl [HQA0 HQA0l]; · iapply (halves_any c QA0 _); isplitl [HQA0l] <;> iassumption
      isplitl [HQA1 HQA1l]; · iapply (halves_any c QA1 _); isplitl [HQA1l] <;> iassumption
      isplitl [HQA2 HQA2l]; · iapply (halves_any c QA2 _); isplitl [HQA2l] <;> iassumption
      iapply (own_any c QA3 _); iexact HQA3
    isplitl [HQB0 HQB0l HQB1 HQB1l HQB2 HQB2l HQB3]
    · iapply (slots_join c mQB)
      isplitl [HQB0 HQB0l]; · iapply (halves_any c QB0 _); isplitl [HQB0l] <;> iassumption
      isplitl [HQB1 HQB1l]; · iapply (halves_any c QB1 _); isplitl [HQB1l] <;> iassumption
      isplitl [HQB2 HQB2l]; · iapply (halves_any c QB2 _); isplitl [HQB2l] <;> iassumption
      iapply (own_any c QB3 _); iexact HQB3
    isplitl [HT0 HT1]
    · iapply (tiles_join c)
      isplitl [HT0]; · iapply (own_any c T0 _); iexact HT0
      iapply (own_any c T1 _); iexact HT1
    iapply (own_any c mM _); iexact HM
  iexact HW

/-! ## The launch's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wg m ρ c
  Φ t := match t with
    | ⟨0, _⟩ => Φ₀ m ρ c
    | ⟨_ + 1, _⟩ => Φ₁ m ρ c
  q _ := fullShare
  owed t := match t with
    | ⟨0, _⟩ => debt c 0
    | ⟨_ + 1, _⟩ => 0

theorem fetch_0 (t : Fin cfg0.N) : (cfg0.win (0 : Fin 1)).fetch t = true := by rw [fin_N t]; rfl

def bodyPre (c : Dev nD) : sProp 𝕄 :=
  iprop(Φ₀ m ρ c ∗ (dats m ρ 0 c).owesAt () t₀.castSucc ∗ (∃ d, own c mW fullShare ((dats m ρ 0 c).before (0 : Fin 1) t₀ d)))
def bodyPost (c : Dev nD) : sProp 𝕄 :=
  iprop(Φ₁ m ρ c ∗ (dats m ρ 0 c).owesAt () t₀.succ ∗ own c mW fullShare (wg m ρ c))

theorem map_range : (List.range 32).map (wlist.getD · 0) = wlist := by decide +kernel

/-- The body between them. -/
theorem sound_body (c : Dev nD) :
    bodyPre m ρ c ⊢ WP (F := F) c (cc0_body mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0) (fun _ => bodyPost m ρ c) := by
  unfold bodyPre Φ₀ start Dat.owesAt Pipeline.owesWithin
  iintro ⟨⟨⟨⟨%K, #Henv, Hl, Hw, Hloc⟩, HX, HO⟩, Hscr⟩, ⟨%W, %hW, HOw⟩, ⟨%d, HW⟩⟩
  have hx : (dats m ρ 0 c).before (0 : Fin 1) t₀ d = wg m ρ c := by unfold Dat.before; rw [if_pos (fetch_0 t₀)]; rfl
  rw [hx, show (dats m ρ 0 c).owed t₀.castSucc = debt c 0 from rfl]
  iapply (body m ρ K c)
  isplitr; · iexact Henv
  isplitl [HOw Hl Hw]
  · unfold st
    isplitl [HOw]; · iexists W; iexact HOw
    isplitl [Hl]; · iexact Hl
    isplitl [Hw]; · iexact Hw
    iapply (show iprop(emp) ⊢ zs (F := F) c 0 from BI.Entails.refl _); iempintro
  isplitl [HX HO Hloc Hscr HW]
  · iapply (begun_intro m ρ c)
    isplitl [HX]; · iexact HX
    isplitl [HO]; · iexact HO
    isplitl [Hloc]; · iexact Hloc
    isplitl [Hscr] <;> iassumption
  unfold st
  iintro ⟨⟨⟨%W', HOw⟩, -, -, Hz⟩, He⟩
  ihave Hz := (zs_of (F := F) c 32) $$ Hz
  rw [map_range]
  ihave He := (ended_elim m ρ c) $$ He
  icases He with ⟨Hout, Hloc, Hscr, HW⟩
  unfold bodyPost Φ₁ Dat.owesAt Pipeline.owesWithin
  rw [show (dats m ρ 0 c).owed t₀.succ = 0 from rfl]
  isplitl [Hout Hz Hloc Hscr]
  · isplitl [Hout]; · iexact Hout
    isplitl [Hz Hloc]; · isplitl [Hz] <;> iassumption
    iexact Hscr
  isplitl [HOw]
  · iexists W'
    isplitr; · ipureintro; exact fun _ _ => Or.inl trivial
    iexact HOw
  iexact HW

set_option maxRecDepth 20000 in
theorem body_obligation (c : Dev nD) : BodyObligation (dats (F := F) m ρ 0 c) (defs₀ (F := F)) 𝒱₀ () Set.univ := fun t => by
  rw [fin_N t]
  rw [bigSep_W0, bigSep_W0]
  show bodyPre m ρ c ⊢ wp frame (wpE (defs₀ (F := F)) 𝒱₀ (c : Thread nD τ) none) Set.univ (cc0_body mX (Memref.isWhole_whole _) mW (Memref.isWhole_whole _) mO (Memref.isWhole_whole _) mXb (Memref.isWhole_whole _) mA (Memref.isWhole_whole _) mB (Memref.isWhole_whole _) mQA (Memref.isWhole_whole _) mQB (Memref.isWhole_whole _) mT (Memref.isWhole_whole _) mM (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scoped0) (fun _ => bodyPost m ρ c)
  exact sound_body m ρ c

/-! ## The side conditions -/

theorem share_eq (c : Dev nD) (w : Fin cfg0.W) : (dats m ρ 0 c).share w = fullShare := by unfold Dat.share; split <;> rfl

theorem own_whole_eq (c : Dev nD) (b : Ref sig .tc) (X : b.ty.Contents (Elt F)) :
    (own c (Memref.whole b) fullShare X : sProp 𝕄) = (((c : Thread nD τ).loc b) ↦{fullShare} X : sProp 𝕄) := owns_whole _ _ _ _

theorem start_intro (c : Dev nD) :
    iprop(Pipeline.unscopedRestP Pipeline.Prefetch.none cfg0.spec c (fun b => m ((c : Thread nD τ).loc b)) ∗ levAts L lv
        ∗ Pipeline.launchCred (fun d => debt d 0) c ∗ prngReg c (ρ c) ∗ G' m ρ c)
      ⊢ |={Set.univ}=> iprop(start m ρ c ∗ emp) := by
  rw [Pipeline.unscopedRestP_none, unscopedRest0_eq]
  unfold G' linear start env
  iintro ⟨⟨HX, HO⟩, Hlev, Hcr, -, ⟨%K, HI, Hat, Hl, Hloc⟩⟩
  ihave Hw := (creds (F := F) c) $$ [Hcr Hat]
  · isplitl [Hcr] <;> iassumption
  imodintro
  isplitl
  · isplitl [HI Hlev Hw Hl Hloc]
    · iexists K
      isplitl [HI Hlev]; · isplitl [HI] <;> iassumption
      isplitl [Hl]; · iexact Hl
      isplitl [Hw] <;> iassumption
    isplitl [HX]
    · iapply (Entails.of_eq (own_whole_eq c main_arg0 (xg m c)).symm); iexact HX
    · iexists (m ((c : Thread nD τ).loc main_v1))
      iapply (Entails.of_eq (own_whole_eq c main_v1 (m ((c : Thread nD τ).loc main_v1))).symm); iexact HO
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

/-- What is read of the final memory. -/
def left (c : Dev nD) : sProp 𝕄 :=
  iprop(unscopedSems0 c ∗ (((c : Thread nD τ).loc main_arg0) ↦{fullShare} xg m c) ∗ (((c : Thread nD τ).loc main_v1) ↦{fullShare} outF m ρ))

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scratch_eq]
  unfold Φ₁ left
  rw [← sems0_eq, own_whole_eq, own_whole_eq]
  iintro ⟨⟨HX, HO⟩, ⟨Hu, Hs⟩, Hr⟩
  isplitl [Hu HX HO]
  · isplitl [Hu]; · iexact Hu
    isplitl [HX] <;> iassumption
  isplitl [Hs] <;> iassumption

theorem lv_pos : ∀ p ∈ pays, 0 < lvK p.k := by decide

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin cfg0.W) (s : Fin (cfg0.win w).nbuf), lvK (kOf (.dma ((cfg0.win w).sem s))) = 0 := by decide
    have h (O : CellTallies nD τ sig Unit) (hO : O = debt c 0 ∨ O = 0) : (levAts L lv : sProp 𝕄) ⊢ MayWait (c : Thread nD τ) (.dma ((cfg0.win w).sem s)) () O := by
      rcases hO with rfl | rfl
      · exact mayWait fun p hp => by rw [hq]; exact lv_pos p hp
      · rw [MayWait_zero]; iintro -; iempintro
    refine h _ ?_
    rcases t with ⟨_ | _, ht⟩
    · exact Or.inl rfl
    · exact Or.inr rfl

/-! ## The run -/

/-- What the final memory holds: the result, and the two arguments as they were. -/
def Out (s : MemSt nD τ sig (Elt F)) : Prop := ∀ c : Dev nD,
  s.mem ((c : Thread nD τ).loc main_v1) = outF m ρ
    ∧ s.mem ((c : Thread nD τ).loc main_arg0) = m ((c : Thread nD τ).loc main_arg0)
    ∧ s.mem ((c : Thread nD τ).loc main_arg1) = m ((c : Thread nD τ).loc main_arg1)

/-- Reading it. -/
theorem read_left (c : Dev nD) (s' : Phys nD τ sig (Elt F)) :
    iprop(left m ρ c ∗ emp ∗ SI s') ⊢ |={Set.univ}=> iprop(⌜(s'.mem.mem ((c : Thread nD τ).loc main_v1) = outF m ρ
        ∧ s'.mem.mem ((c : Thread nD τ).loc main_arg0) = m ((c : Thread nD τ).loc main_arg0))
        ∧ ∀ sm : SemLoc sig, sm.isScoped .tc = false → s'.mem.sem ((c.tc : Thread nD τ), sm) = 0⌝ ∗ SI s') := by
  unfold left
  iintro ⟨⟨Hu, HX, HO⟩, -, HSI⟩
  icombine HSI HX gives %hx
  icombine HSI HO gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ho, Buf.eq_of_forall_mem_univ hx⟩, hs⟩
  iexact HSI

theorem finalA_w (c : Dev nD) : (dats m ρ 0 c).arrAt (0 : Fin 1) cfg0.N = m ((c : Thread nD τ).loc main_arg1) :=
  (dats (F := F) m ρ 0 c).arrAt_in (0 : Fin 1) rfl _

set_option maxRecDepth 8000 in
/-- From any memory with zero counters every weakly fair execution of the program terminates, and every final state has
    the result on every device, the arguments unchanged and every semaphore counter at zero. -/
theorem run_main : θ_run defs (onTc (τ := τ) (main (F := F))) (s₀ m ρ) (fun r => Out m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => (s.mem ((c : Thread nD τ).loc main_v1) = outF m ρ ∧ s.mem ((c : Thread nD τ).loc main_arg0) = m ((c : Thread nD τ).loc main_arg0))
      ∧ ∀ sm : SemLoc sig, sm.isScoped .tc = false → s.sem ((c.tc : Thread nD τ), sm) = 0)
    (hY := read_left m ρ)
    (hQ := fun _ h hs => ⟨fun c => ⟨(h c).2.2.1.1, (h c).2.2.1.2, ((h c).1 (0 : Fin 1)).trans (finalA_w m ρ c)⟩, sem_eq_zero hs fun c => (h c).2.2.2⟩)

end Cert.KernelIdealProof

end
-- ==== Proof.Value.Math.lean ====
/-
# The mathematics of the claim

One entry of the result, over the extended reals: a sum cut into four, a maximum taken over everything, and a
rounded, clipped number that an 8-bit word holds exactly.
-/
module

public import Idealize.ShloMosaic.Lib.MatmulPlain
public import Idealize.ShloMosaic.Lib.Pipeline.Value
public import Idealize.ShloMosaic.Lib.ValueIdx
public import Idealize.ShloMosaic.Lib.IdealHost
public import Idealize.ShloMosaic.Lib.KernelVsHost

@[expose] public section

noncomputable section

namespace Cert.Value

open Idealize.ShloMosaic Idealize.ShloMosaic.ValueIdx
open scoped BigOperators

/-! ## Sums -/

/-- A sum over 4096 positions is the sum over four blocks of 1024. -/
theorem sum_blocks {M : Type*} [AddCommMonoid M] (f : ℕ → M) :
    ∑ k : Fin 4096, f k.val = ∑ d : Fin 4, ∑ k : Fin 1024, f (1024 * d.val + k.val) := by
  rw [← Fintype.sum_prod_type' (f := fun (d : Fin 4) (k : Fin 1024) => f (1024 * d.val + k.val))]
  refine (Fintype.sum_equiv (finProdFinEquiv (m := 4) (n := 1024)) _ (fun k : Fin 4096 => f k.val) fun p => ?_).symm
  exact congrArg f (Nat.add_comm ..)

/-! ## Matrices -/

/-- A matrix as a function of two numbers, zero outside it; -/
def at2 {M N : ℕ} (X : (⟨2, ![M, N]⟩ : Shape).Idx → EReal) (a b : ℕ) : EReal :=
  if h : a < M ∧ b < N then X (ix2 ⟨a, h.1⟩ ⟨b, h.2⟩) else 0

/-- inside it its entries. -/
theorem at2_apply {M N : ℕ} (X : (⟨2, ![M, N]⟩ : Shape).Idx → EReal) (i : (⟨2, ![M, N]⟩ : Shape).Idx) {a b : ℕ}
    (ha : (i 0).val = a) (hb : (i 1).val = b) : at2 X a b = X i := by
  subst ha hb
  rw [at2, dif_pos ⟨(i 0).isLt, (i 1).isLt⟩]
  exact congrArg X (eq_ix2 i).symm

/-- The positive part of entry `(a, b)` of the product of two matrices. -/
def yv (x w : ℕ → ℕ → EReal) (a b : ℕ) : EReal := max (∑ k : Fin 4096, x a k.val * w k.val b) 0

/-- A reshaped array is at most `z` exactly when the array is. -/
theorem forall_shapeCast {s t : Shape} (X : s.Idx → EReal) (h : s.ShapeCasts t) (z : EReal) :
    (∀ i, shapeCast t X h i ≤ z) ↔ ∀ i, X i ≤ z :=
  (Shape.reshapeEquiv h).forall_congr_right (q := fun i => X i ≤ z)

/-! ## Maxima -/

/-- A left fold of maxima is at most `z` exactly when its start and every number folded in are. -/
theorem foldl_max_le {ι : Type} (x : ι → EReal) (z : EReal) : ∀ (l : List ι) (b : EReal),
    l.foldl (fun r n => max r (x n)) b ≤ z ↔ b ≤ z ∧ ∀ n ∈ l, x n ≤ z
  | [], b => by simp
  | n :: l, b => by rw [List.foldl_cons, foldl_max_le x z l, max_le_iff, List.forall_mem_cons, and_assoc]

/-- The float word of −∞. -/
theorem ofBits_neg_inf : Ideal.ofBits .f32 0xFF800000#32 = ⊥ := by simp [Ideal.ofBits, Ideal.ieee]

/-- The kernel's maximum over all axes is at most `z` exactly when every number is. -/
theorem max_le {s t : Shape} {axes : List (Fin s.rank)} (src : FVec Ideal s .f32) (h : s.Reduces axes t)
    (hφ : FKind.Formats .f32) (hacc : (0xFF800000#32 : BitVec (FTy.bits .f32)) = FKind.maximumf.neutral .f32 hφ) (j : t.Idx) (ht : ∀ j', j' = j) (z : EReal) :
    (multiReduction .maximumf axes t src 0xFF800000#32 h hφ hacc j : EReal) ≤ z ↔ ∀ i, (src i : EReal) ≤ z := by
  refine (foldl_max_le (fun n => src (s.rowMajor.symm n)) z _ _).trans ⟨fun hh i => ?_, fun hh => ⟨?_, fun n _ => hh _⟩⟩
  · have := hh.2 (s.rowMajor i) (List.mem_filter.2 ⟨List.mem_finRange _, by simpa using ht _⟩)
    simpa using this
  · show Ideal.ofBits .f32 0xFF800000#32 ≤ z
    rw [ofBits_neg_inf]; exact bot_le

/-- The same of the host's. -/
theorem host_max_le {s t u : Shape} {axes : List (Fin s.rank)} (src : FVec Ideal s .f32) (h : s.ReducesTo axes t) (hu : 0 < u.numel)
    (j : t.Idx) (ht : ∀ j', j' = j) (z : EReal) :
    (Host.reduce (FloatOps.maximumf (F := Ideal) (φ := .f32)) src (constant u .f32 0xFF800000#32 : FVec Ideal u .f32) h hu j : EReal) ≤ z ↔ ∀ i, (src i : EReal) ≤ z := by
  refine (foldl_max_le (fun n => src (s.rowMajor.symm n)) z _ _).trans ⟨fun hh i => ?_, fun hh => ⟨?_, fun n _ => hh _⟩⟩
  · have := hh.2 (s.rowMajor i) (List.mem_filter.2 ⟨List.mem_finRange _, by simpa using ht _⟩)
    simpa using this
  · show Ideal.ofBits .f32 0xFF800000#32 ≤ z
    rw [ofBits_neg_inf]; exact bot_le

/-! ## The quantiser -/

/-- The bound 127 and its negative, as the programs write them. -/
theorem ofBits_127 : Ideal.ofBits .f32 0x42FE0000#32 = ((127 : ℝ) : EReal) := by
  simp [Ideal.ofBits, Ideal.ieee, -EReal.coe_mul]; norm_num
theorem ofBits_neg_127 : Ideal.ofBits .f32 0xC2FE0000#32 = ((-127 : ℝ) : EReal) := by
  simp [Ideal.ofBits, Ideal.ieee, -EReal.coe_mul]; norm_num

/-- The order of the reals is the order of the extended reals. -/
theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- A number divided by the step, rounded to the nearest integer (to even at a tie) and clipped to ±127. -/
def quant (s y : EReal) : EReal :=
  min (Ideal.ofBits .f32 0x42FE0000#32) (max (Ideal.ofBits .f32 0xC2FE0000#32) (Ideal.liftRound Ideal.roundHalfEven (Ideal.div y s)))

/-- What the clip leaves is an integer of at most 127 in size, whatever was divided; -/
theorem quant_int (s y : EReal) : ∃ n : ℤ, -127 ≤ n ∧ n ≤ 127 ∧ quant s y = ((n : ℝ) : EReal) := by
  unfold quant
  rw [ofBits_127, ofBits_neg_127]
  generalize Ideal.div y s = v
  induction v with
  | bot => exact ⟨-127, le_rfl, by decide, by
      show min _ (max _ (⊥ : EReal)) = _
      rw [max_bot_right, ← coe_min']; norm_num⟩
  | top => exact ⟨127, by decide, le_rfl, by
      show min _ (max _ (⊤ : EReal)) = _
      rw [max_top_right, min_top_right]; norm_num⟩
  | coe r =>
    refine ⟨min 127 (max (-127) (Ideal.roundHalfEven r)), by omega, by omega, ?_⟩
    rw [Ideal.liftRound_coe, ← coe_max', ← coe_min']
    push_cast
    rfl

/-- so that an 8-bit word holds it exactly. -/
theorem quant_word (s y : EReal) : (((Ideal.fptosi 8 (quant s y)).toInt : ℝ) : EReal) = quant s y := by
  obtain ⟨n, h1, h2, h⟩ := quant_int s y
  rw [h, Ideal.fptosi, Ideal.toIntClamped_coe]
  have hn : (if (0 : ℝ) ≤ (n : ℝ) then ⌊(n : ℝ)⌋ else ⌈(n : ℝ)⌉) = n := by simp
  rw [hn, show max (-((2 ^ (8 - 1) : ℕ) : ℤ)) (min (((2 ^ (8 - 1) : ℕ) : ℤ) - 1) n) = n by norm_num; omega]
  rw [BitVec.toInt_ofInt_eq_self (by decide) (by norm_num; omega) (by norm_num; omega)]

end Cert.Value

end
-- ==== Proof.Value.Kernel.lean ====
/-
# What the kernel computes, in exact arithmetic

Every device's result, entry by entry, from the whole matrices that the devices hold blocks of.
-/
module

public import proofs.«01_k».proof.Proof.KernelIdeal.Split
public import proofs.«01_k».proof.Proof.Value.Math

@[expose] public section

noncomputable section

namespace Cert.KernelIdealProof

open Cert.KernelIdeal Cert.KernelIdeal.Gen Cert.Value

open Idealize.ShloMosaic Idealize.ShloMosaic.ValueIdx
open Idealize.ShloMosaic.TcCoe
open scoped BigOperators

/-! ## One block's operations -/

/-- The product of two square blocks. -/
def mm (A B : S1024x1024.Idx → EReal) : S1024x1024.Idx → EReal :=
  fun j => ∑ k : Fin 1024, A (ix2 (j 0) k) * B (ix2 k (j 1))

/-- The matrix unit's product from zero is that product. -/
theorem matmul_eq (A B : FVec Ideal S1024x1024 .f32) :
    matmul dot_S1024x1024_S1024x1024_S1024x1024_1_0_0_1_n_n none A B (constant S1024x1024 .f32 0x00000000#32) = mm A B := by
  funext j
  rw [eq_ix2 j]
  refine (Ideal.matmul_plain_apply (M := 1024) (K := 1024) (N := 1024) none A B _ (j 0) (j 1)).trans ?_
  show Ideal.ofBits .f32 0x00000000#32 + _ = _
  rw [Ideal.ofBits_zero_f32, zero_add]
  rfl

/-- A block put into a slot and read as a matrix is itself. -/
theorem flat_slot {α : Type} (Y : S1024x1024.Idx → α) (h : S1024x1024.ShapeCasts S1x1024x1024) :
    flat (shapeCast S1x1024x1024 Y h) = Y := shapeCast_shapeCast Y h _

section Blocks

variable (a b : FVec Ideal S1x1024x1024 .f32) (w : FVec Ideal S1024x1024 .f32)

/-- A slot holding a product, whichever of the body's eight products it is. -/
theorem slot_mm (h : S1024x1024.ShapeCasts S1x1024x1024) (h' : S1x1024x1024.ShapeCasts S1024x1024) (h'' : S1024x1024.ShapeCasts S1024x1024) :
    flat (shapeCast S1x1024x1024 (matmul dot_S1024x1024_S1024x1024_S1024x1024_1_0_0_1_n_n none (shapeCast S1024x1024 a h')
      (shapeCast S1024x1024 w h'') (constant S1024x1024 .f32 0x00000000#32)) h) = mm (flat a) w := by
  rw [flat_slot, shapeCast_self, matmul_eq]
  rfl

/-! The eight products: each slot, read as a matrix, is the product of the block and the weights. -/

theorem flat_pay1 : flat (k0_pay1 (F := Ideal) a w) = mm (flat a) w := slot_mm a w _ _ _
theorem flat_pay3 : flat (k0_pay3 (F := Ideal) (k0_pay2 a) w) = mm (flat a) w := slot_mm a w _ _ _
theorem flat_pay4 : flat (k0_pay4 (F := Ideal) a w) = mm (flat a) w := slot_mm a w _ _ _
theorem flat_pay5 : flat (k0_pay5 (F := Ideal) a w) = mm (flat a) w := slot_mm a w _ _ _
theorem flat_pay8 : flat (k0_pay8 (F := Ideal) a w) = mm (flat a) w := slot_mm a w _ _ _
theorem flat_pay11 : flat (k0_pay11 (F := Ideal) (k0_pay9 a) (k0_pay10 w) (constant S1024x1024 .f32 0x00000000#32)) = mm (flat a) w := slot_mm a w _ _ _
theorem flat_pay14 : flat (k0_pay14 (F := Ideal) a w) = mm (flat a) w := slot_mm a w _ _ _
theorem flat_pay15 : flat (k0_pay15 (F := Ideal) a w) = mm (flat a) w := slot_mm a w _ _ _

/-- A slot holding a sum. -/
theorem slot_add (h : S1024x1024.ShapeCasts S1x1024x1024) (h' : S1x1024x1024.ShapeCasts S1024x1024) :
    flat (shapeCast S1x1024x1024 (addf (shapeCast S1024x1024 a h') (shapeCast S1024x1024 b h')) h) = fun j => (flat a j + flat b j : EReal) := by
  rw [flat_slot]
  rfl

/-! The four partial sums that are sent on. -/

theorem flat_pay6 : flat (k0_pay6 (F := Ideal) a b) = fun j => (flat a j + flat b j : EReal) := slot_add a b _ _
theorem flat_pay7 : flat (k0_pay7 (F := Ideal) a b) = fun j => (flat a j + flat b j : EReal) := slot_add a b _ _
theorem flat_pay12 : flat (k0_pay12 (F := Ideal) a b) = fun j => (flat a j + flat b j : EReal) := slot_add a b _ _
theorem flat_pay13 : flat (k0_pay13 (F := Ideal) a b) = fun j => (flat a j + flat b j : EReal) := slot_add a b _ _

/-- A slot holding a sum's positive part. -/
theorem slot_relu (h : S1024x1024.ShapeCasts S1x1024x1024) (h' : S1x1024x1024.ShapeCasts S1024x1024) :
    flat (shapeCast S1x1024x1024 (maximumf (addf (shapeCast S1024x1024 a h') (shapeCast S1024x1024 b h'))
      (broadcast S1024x1024 (Scalar.ofBits .f32 0x00000000#32))) h) = fun j => max (flat a j + flat b j : EReal) 0 := by
  rw [flat_slot]
  funext j
  show max (flat a j + flat b j : EReal) (Ideal.ofBits .f32 0x00000000#32) = _
  rw [Ideal.ofBits_zero_f32]

/-! The last sum of each ring, with its negative part dropped. -/

theorem flat_pay16 : flat (k0_pay16 (F := Ideal) a b) = fun j => max (flat a j + flat b j : EReal) 0 := slot_relu a b _ _
theorem flat_pay17 : flat (k0_pay17 (F := Ideal) a b) = fun j => max (flat a j + flat b j : EReal) 0 := slot_relu a b _ _

/-- A slot holding quantised numbers, and the numbers made of them again. -/
theorem flat_pay21 (v : FVec Ideal S1x4x8x128 .f32) :
    flat (k0_pay21 (F := Ideal) v a) = fun j => Ideal.fptosi 8 (quant (k0_pay20 v) (flat a j)) := by
  unfold k0_pay21
  dsimp only
  rw [flat_slot]
  rfl
theorem flat_pay24 (v : FVec Ideal S1x4x8x128 .f32) :
    flat (k0_pay24 (F := Ideal) (k0_pay22 v a) (Scalar.ofBits .f32 0x42FE0000#32) k0_pay23) = fun j => Ideal.fptosi 8 (quant (k0_pay20 v) (flat a j)) := by
  unfold k0_pay24
  dsimp only
  rw [flat_slot]
  rfl
theorem flat_pay25 (s : Ideal .f32) (q : IVec S1x1024x1024 8) :
    flat (k0_pay25 (F := Ideal) s q) = fun j => (((flat q j).toInt : ℝ) : EReal) * s := by
  unfold k0_pay25
  dsimp only
  rw [flat_slot]
  rfl
theorem flat_pay26 (s : Ideal .f32) (q : IVec S1x1024x1024 8) :
    flat (k0_pay26 (F := Ideal) s q) = fun j => (((flat q j).toInt : ℝ) : EReal) * s := by
  unfold k0_pay26
  dsimp only
  rw [flat_slot]
  rfl

end Blocks

/-! ## The blocks of the two rings -/

section Rings

variable (m : (ℓ : Loc nD τ sig) → Buf (Elt Ideal) ℓ) (ρ : Dev nD → PrngReg)
variable (x w : ℕ → ℕ → EReal)

/-- Two steps of the ring in one. -/
theorem sh23 (c : Dev nD) : sh (sh c 2) 3 = sh c 1 := by revert c; decide
theorem sh21 (c : Dev nD) : sh (sh c 2) 1 = sh c 3 := by revert c; decide

/-- Four numbers added around the ring, from the right neighbour's on, are their sum; -/
theorem sum_right (f : Dev nD → EReal) (c : Dev nD) : f (sh c 1) + f (sh c 2) + f (sh c 3) + f c = ∑ d, f d := by
  rw [Fin.sum_univ_four]
  match c with
  | 0 => show f 1 + f 2 + f 3 + f 0 = _; abel
  | 1 => show f 2 + f 3 + f 0 + f 1 = _; abel
  | 2 => show f 3 + f 0 + f 1 + f 2 = _; abel
  | 3 => rfl
/-- so are they in the other direction. -/
theorem sum_left (f : Dev nD → EReal) (c : Dev nD) : f (sh c 3) + f (sh c 2) + f (sh c 1) + f c = ∑ d, f d := by
  rw [← sum_right f c]; abel

/-- The devices hold the blocks of two whole matrices: `x` cut by columns, `w` by rows. -/
structure Holds : Prop where
  x_eq (c : Dev nD) (i : S4096x1024.Idx) : xg (F := Ideal) m c i = x (i 0).val (1024 * c.val + (i 1).val)
  w_eq (c : Dev nD) (i : S1024x2048.Idx) : wg (F := Ideal) m ρ c i = w (1024 * c.val + (i 0).val) (i 1).val

/-- The part of entry `(a, b)` of `x w` that the columns and rows of device `d` make; -/
def part (a b : ℕ) (d : Dev nD) : EReal := ∑ k : Fin 1024, x a (1024 * d.val + k.val) * w (1024 * d.val + k.val) b
/-- the whole entry's positive part is that of the four parts' sum. -/
theorem yv_eq (a b : ℕ) : yv x w a b = max (∑ d, part x w a b d) 0 :=
  congrArg (max · 0) (sum_blocks fun k => x a k * w k b)

variable {m ρ x w} (H : Holds m ρ x w)
include H

/-- Device `c`'s product of its columns of row block `r` and the left half of its weights: its part of those entries; -/
theorem mmL (c r : Dev nD) : mm (flat (xch (F := Ideal) m c r)) (wL (F := Ideal) m ρ c) = fun j => part x w (1024 * r.val + (j 0).val) (j 1).val c := by
  rw [xch, flat_unflat]
  funext j
  refine Finset.sum_congr rfl fun k _ => ?_
  refine (congrArg₂ (· * ·) (H.x_eq c _) (H.w_eq c _)).trans ?_
  show x (1024 * r.val + 1 * (j 0).val) (1024 * c.val + (0 + 1 * k.val)) * w (1024 * c.val + (0 + 1 * k.val)) (0 + 1 * (j 1).val) = _
  simp only [Nat.one_mul, Nat.zero_add]

/-- the same with the right half. -/
theorem mmR (c r : Dev nD) : mm (flat (xch (F := Ideal) m c r)) (wR (F := Ideal) m ρ c) = fun j => part x w (1024 * r.val + (j 0).val) (1024 + (j 1).val) c := by
  rw [xch, flat_unflat]
  funext j
  refine Finset.sum_congr rfl fun k _ => ?_
  refine (congrArg₂ (· * ·) (H.x_eq c _) (H.w_eq c _)).trans ?_
  show x (1024 * r.val + 1 * (j 0).val) (1024 * c.val + (0 + 1 * k.val)) * w (1024 * c.val + (0 + 1 * k.val)) (1024 + 1 * (j 1).val) = _
  simp only [Nat.one_mul, Nat.zero_add]

/-- Going right, the ring leaves on each device the left half of its right neighbour's row block; -/
theorem ra3_eq (c : Dev nD) : flat (ra3 (F := Ideal) m ρ c) = fun j => yv x w (1024 * (sh c 1).val + (j 0).val) (j 1).val := by
  rw [ra3, flat_pay16, ra2, flat_pay12, ra1, flat_pay6, ra0, flat_pay1, pa1, flat_pay4, pa2, flat_pay8, pa3, flat_pay14]
  simp only [mmL H, sh33, sh32, sh23, yv_eq, sum_right]

/-- going left, the right half of its left neighbour's. -/
theorem rb3_eq (c : Dev nD) : flat (rb3 (F := Ideal) m ρ c) = fun j => yv x w (1024 * (sh c 3).val + (j 0).val) (1024 + (j 1).val) := by
  rw [rb3, flat_pay17, rb2, flat_pay13, rb1, flat_pay7, rb0, flat_pay3, pb1, flat_pay5, pb2, flat_pay11, pb3, flat_pay15]
  simp only [mmR H, sh11, sh12, sh21, yv_eq, sum_left]

/-! ## The largest entry -/

omit H in
/-- All indices of a vector of one number are the same. -/
theorem idx_one (i j : S1.Idx) : i = j := funext fun a => by
  match a with | ⟨0, _⟩ => exact Subsingleton.elim (α := Fin 1) _ _

omit H in
/-- The larger of two such vectors' numbers, spread over a tile, is at most `z` exactly when both numbers are. -/
theorem spread_le (R R' : FVec Ideal S1 .f32) (i : S1x8x128.Idx) (j : S1.Idx) (z : EReal) :
    (broadcast S1x8x128 (Scalar.maximumf (extractAt ![0, 0, 0] (shapeCast S1x1x1 R shapeCasts_S1_S1x1x1) inpos_S1x1x1_p0_0_0)
      (extractAt ![0, 0, 0] (shapeCast S1x1x1 R' shapeCasts_S1_S1x1x1) inpos_S1x1x1_p0_0_0)) i : EReal) ≤ z ↔
      (R j : EReal) ≤ z ∧ (R' j : EReal) ≤ z := by
  have e (Q : FVec Ideal S1 .f32) : extractAt ![0, 0, 0] (shapeCast S1x1x1 Q shapeCasts_S1_S1x1x1) inpos_S1x1x1_p0_0_0 = Q j :=
    congrArg Q (idx_one _ j)
  rw [e, e]
  exact max_le_iff

/-- The largest number of a block, as the body takes it. -/
def top (u : FVec Ideal S1x1024x1024 .f32) : FVec Ideal S1 .f32 :=
  multiReduction .maximumf [1, 2] S1 (shapeCast S1x1024x1024 (flat u) shapeCasts_S1024x1024_S1x1024x1024) 0xFF800000#32
    reduces_S1x1024x1024_S1 (.inl rfl) rfl

omit H in
/-- It is at most `z` exactly when every number of the block is. -/
theorem top_le (u : FVec Ideal S1x1024x1024 .f32) (j : S1.Idx) (z : EReal) : (top u j : EReal) ≤ z ↔ ∀ j, (flat u j : EReal) ≤ z :=
  (Cert.Value.max_le (shapeCast S1x1024x1024 (flat u) shapeCasts_S1024x1024_S1x1024x1024) reduces_S1x1024x1024_S1 (.inl rfl) rfl j
    (fun j' => idx_one j' j) z).trans (forall_shapeCast _ _ z)

omit H in
/-- A device's tile of maxima is the larger of its two blocks' largest numbers, everywhere. -/
theorem pay18_eq (a b : FVec Ideal S1x1024x1024 .f32) : k0_pay18 (F := Ideal) a b =
    broadcast S1x8x128 (Scalar.maximumf (extractAt ![0, 0, 0] (shapeCast S1x1x1 (top a) shapeCasts_S1_S1x1x1) inpos_S1x1x1_p0_0_0)
      (extractAt ![0, 0, 0] (shapeCast S1x1x1 (top b) shapeCasts_S1_S1x1x1) inpos_S1x1x1_p0_0_0)) := by
  unfold k0_pay18 top flat
  dsimp only
  rw [shapeCast_self]
  rfl

omit H in
/-- A device's maximum is at most `z` exactly when its two blocks are. -/
theorem pay18_le (a b : FVec Ideal S1x1024x1024 .f32) (i : S1x8x128.Idx) (z : EReal) :
    (k0_pay18 (F := Ideal) a b i : EReal) ≤ z ↔ (∀ j, (flat a j : EReal) ≤ z) ∧ ∀ j, (flat b j : EReal) ≤ z := by
  rw [pay18_eq, spread_le _ _ i (ix1 (0 : Fin 1)), top_le, top_le]

/-- The largest of all the devices' maxima, as the body takes it. -/
def topAll (v : FVec Ideal S1x4x8x128 .f32) : FVec Ideal S1 .f32 :=
  multiReduction .maximumf [1, 2, 3] S1 v 0xFF800000#32 reduces_S1x4x8x128_S1 (.inl rfl) rfl

omit H in
/-- It is at most `z` exactly when every maximum is. -/
theorem topAll_le (v : FVec Ideal S1x4x8x128 .f32) (j : S1.Idx) (z : EReal) : (topAll v j : EReal) ≤ z ↔ ∀ i, (v i : EReal) ≤ z :=
  Cert.Value.max_le v reduces_S1x4x8x128_S1 (.inl rfl) rfl j (fun j' => idx_one j' j) z

omit H in
/-- The step is that number divided by 127. -/
theorem pay20_eq (v : FVec Ideal S1x4x8x128 .f32) :
    k0_pay20 (F := Ideal) v = Ideal.div (topAll v (ix1 (0 : Fin 1))) (Ideal.ofBits .f32 0x42FE0000#32) := by
  have e (Q : FVec Ideal S1 .f32) : extractAt ![0, 0, 0, 0] (shapeCast S1x1x1x1 Q shapeCasts_S1_S1x1x1x1) inpos_S1x1x1x1_p0_0_0_0
      = Q (ix1 (0 : Fin 1)) := congrArg Q (idx_one _ _)
  rw [← e (topAll v)]
  rfl

/-- The step is the largest entry divided by 127. -/
theorem sc_eq : ∃ M : EReal, (∀ z, M ≤ z ↔ ∀ i : S4096x2048.Idx, yv x w (i 0).val (i 1).val ≤ z) ∧
    sc (F := Ideal) m ρ = Ideal.div M (Ideal.ofBits .f32 0x42FE0000#32) := by
  refine ⟨topAll (av m ρ) (ix1 (0 : Fin 1)), fun z => ?_, pay20_eq _⟩
  refine (topAll_le _ _ z).trans ?_
  refine (forall_shapeCast (amAll (F := Ideal) m ρ) _ z).trans ?_
  have dev (c : Dev nD) (i : S1x8x128.Idx) : (am (F := Ideal) m ρ c i : EReal) ≤ z ↔
      (∀ j : S1024x1024.Idx, yv x w (1024 * (sh c 1).val + (j 0).val) (j 1).val ≤ z) ∧
      ∀ j : S1024x1024.Idx, yv x w (1024 * (sh c 3).val + (j 0).val) (1024 + (j 1).val) ≤ z := by
    rw [am, pay18_le, ra3_eq H, rb3_eq H]
  constructor
  · intro h i
    have h0 : (i 0).val < 4096 := (i 0).isLt
    have h1 : (i 1).val < 2048 := (i 1).isLt
    have hr : (i 0).val / 1024 < 4 := by omega
    let r : Dev nD := ⟨(i 0).val / 1024, hr⟩
    have e0 : 1024 * r.val + (i 0).val % 1024 = (i 0).val := by show 1024 * ((i 0).val / 1024) + _ = _; omega
    have l0 : (i 0).val % 1024 < 1024 := Nat.mod_lt _ (by decide)
    by_cases hb : (i 1).val < 1024
    · have := ((dev (sh r 3) _).1 (h (ix3 (sh r 3) (0 : Fin 8) (0 : Fin 128)))).1 (ix2 ⟨_, l0⟩ ⟨_, hb⟩)
      rw [sh31] at this
      exact e0 ▸ this
    · have hb' : (i 1).val - 1024 < 1024 := by omega
      have := ((dev (sh r 1) _).1 (h (ix3 (sh r 1) (0 : Fin 8) (0 : Fin 128)))).2 (ix2 ⟨_, l0⟩ ⟨_, hb'⟩)
      rw [sh13] at this
      have e1 : 1024 + ((i 1).val - 1024) = (i 1).val := by omega
      exact e0 ▸ e1 ▸ this
  · intro h i
    refine (dev (i 0) _).2 ⟨fun j => ?_, fun j => ?_⟩
    · have h0 : (j 0).val < 1024 := (j 0).isLt
      have h1 : (j 1).val < 1024 := (j 1).isLt
      have hc : (sh (i 0) 1).val < 4 := (sh (i 0) 1).isLt
      exact h (ix2 (⟨1024 * (sh (i 0) 1).val + (j 0).val, by omega⟩ : Fin 4096) (⟨(j 1).val, by omega⟩ : Fin 2048))
    · have h0 : (j 0).val < 1024 := (j 0).isLt
      have h1 : (j 1).val < 1024 := (j 1).isLt
      have hc : (sh (i 0) 3).val < 4 := (sh (i 0) 3).isLt
      exact h (ix2 (⟨1024 * (sh (i 0) 3).val + (j 0).val, by omega⟩ : Fin 4096) (⟨1024 + (j 1).val, by omega⟩ : Fin 2048))

/-! ## The result -/

/-- Every entry of the result is the product's entry, its negative part dropped, quantised and multiplied by the step again. -/
theorem outF_eq (i : S4096x2048.Idx) :
    outF (F := Ideal) m ρ i = quant (sc (F := Ideal) m ρ) (yv x w (i 0).val (i 1).val) * sc (F := Ideal) m ρ := by
  have h0 : (i 0).val < 4096 := (i 0).isLt
  have h1 : (i 1).val < 2048 := (i 1).isLt
  have hr : (i 0).val / 1024 < 4 := by omega
  have l0 : (i 0).val % 1024 < 1024 := Nat.mod_lt _ (by decide)
  have l1 : (i 1).val % 1024 < 1024 := Nat.mod_lt _ (by decide)
  let r : Dev nD := ⟨(i 0).val / 1024, hr⟩
  let j : S1024x1024.Idx := ix2 ⟨_, l0⟩ ⟨_, l1⟩
  have e0 : (i 0).val = 1024 * r.val + (j 0).val := by
    show (i 0).val = 1024 * ((i 0).val / 1024) + (i 0).val % 1024; omega
  obtain ⟨hL, hR⟩ := outOf_eq (fun r => flat (k0_pay25 (F := Ideal) (sc m ρ) (qa0 m ρ (sh r 3))))
    (fun r => flat (k0_pay26 (F := Ideal) (sc m ρ) (qb0 m ρ (sh r 1)))) i r j e0
  by_cases hb : (i 1).val < 1024
  · have e1 : (i 1).val = (j 1).val := by show _ = (i 1).val % 1024; omega
    refine (hL e1).trans ?_
    refine (congrFun (flat_pay25 _ _) j).trans (congrArg (· * sc (F := Ideal) m ρ) ?_)
    refine (congrArg (fun b : BitVec 8 => ((b.toInt : ℝ) : EReal)) (congrFun (flat_pay21 _ (av (F := Ideal) m ρ)) j)).trans ?_
    refine (quant_word _ _).trans (congrArg (quant _) ((congrFun (ra3_eq H _) j).trans ?_))
    rw [sh31, e0, e1]
  · have e1 : (i 1).val = 1024 + (j 1).val := by show _ = 1024 + (i 1).val % 1024; omega
    refine (hR e1).trans ?_
    refine (congrFun (flat_pay26 _ _) j).trans (congrArg (· * sc (F := Ideal) m ρ) ?_)
    refine (congrArg (fun b : BitVec 8 => ((b.toInt : ℝ) : EReal)) (congrFun (flat_pay24 _ (av (F := Ideal) m ρ)) j)).trans ?_
    refine (quant_word _ _).trans (congrArg (quant _) ((congrFun (rb3_eq H _) j).trans ?_))
    rw [sh13, e0, e1]

end Rings

end Cert.KernelIdealProof

end
-- ==== Proof.Value.Reference.lean ====
/-
# What the reference computes, in exact arithmetic

The reference's result, entry by entry, from its two matrices.
-/
module

public import proofs.«01_k».proof.Proof.Gen.ReferenceIdeal.Run
public import proofs.«01_k».proof.Proof.Value.Math

@[expose] public section

noncomputable section

namespace Cert.ReferenceIdeal.Value

open Cert.ReferenceIdeal Cert.ReferenceIdeal.Gen Cert.Value

open Idealize.ShloMosaic Idealize.ShloMosaic.ValueIdx
open scoped BigOperators

variable (X : FVec Ideal S4096x4096 .f32) (W : FVec Ideal S4096x2048 .f32)

/-- The product without its negative part, -/
def yref : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))

/-- the quantization step, -/
def sref : FVec Ideal S_ .f32 :=
  Host.divf (Host.reduce FloatOps.maximumf (Host.absf (yref X W)) (constant S_ .f32 0xFF800000#32) reducesTo_S4096x2048_S_d0_1 h_S_)
    (constant S_ .f32 0x42FE0000#32)

/-- the result. -/
def ref : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (yref X W) (broadcastInDim S4096x2048 ![] bcast_S_S4096x2048 (sref X W))))))
    (broadcastInDim S4096x2048 ![] bcast_S_S4096x2048 (sref X W))

/-- An entry of the product is the sum it stands for. -/
theorem yref_eq (i : S4096x2048.Idx) : (yref X W i : EReal) = yv (at2 X) (at2 W) (i 0).val (i 1).val := by
  refine congrArg₂ max ?_ ((broadcastInDim_scalar_apply _ _ i).trans Ideal.ofBits_zero_f32)
  rw [eq_ix2 i]
  refine (Ideal.matmul_plain_apply (M := 4096) (K := 4096) (N := 2048) none X W (fun _ => (0 : EReal)) (i 0) (i 1)).trans ?_
  rw [zero_add]
  exact Finset.sum_congr rfl fun k _ => congrArg₂ (· * ·) (at2_apply X (ix2 (i 0) k) rfl rfl).symm (at2_apply W (ix2 k (i 1)) rfl rfl).symm

/-- The step is the largest entry divided by 127: no entry is negative, so the absolute values are the entries. -/
theorem sref_eq : ∃ M : EReal, (∀ z, M ≤ z ↔ ∀ i : S4096x2048.Idx, yv (at2 X) (at2 W) (i 0).val (i 1).val ≤ z) ∧
    sref X W ix0 = Ideal.div M (Ideal.ofBits .f32 0x42FE0000#32) := by
  refine ⟨_, fun z => ?_, rfl⟩
  refine (host_max_le (Host.absf (yref X W)) _ _ _ (fun j' => funext fun a => a.elim0) z).trans (forall_congr' fun i => ?_)
  have ha : (Host.absf (yref X W) i : EReal) = yref X W i := by
    show max (yref X W i : EReal) (-(yref X W i : EReal)) = yref X W i
    have h : (0 : EReal) ≤ yref X W i := by rw [yref_eq]; exact le_max_right _ _
    exact max_eq_left (le_trans (EReal.neg_le_neg_iff.2 h |>.trans (by simp)) h)
  rw [ha, yref_eq]

/-- Every entry of the result is the product's entry, its negative part dropped, quantised and multiplied by the step again. -/
theorem ref_eq (i : S4096x2048.Idx) :
    (ref X W i : EReal) = quant (sref X W ix0) (yv (at2 X) (at2 W) (i 0).val (i 1).val) * sref X W ix0 := by
  rw [← yref_eq, ← broadcastInDim_scalar_apply bcast_S_S4096x2048 (sref X W) i]
  rfl

end Cert.ReferenceIdeal.Value

end
-- ==== Proof.lean ====
/- The proof of the certificate's claim (proof/Defs.lean): both programs of the kernel and the reference run to the end,
   keep their arguments and leave every semaphore at zero; the ideal program is the kernel's own text; and in exact
   arithmetic every device of the kernel ends with the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The kernel, at its float words, runs to the end on every device, keeps its arguments and leaves every counter at zero. -/
theorem frame_kernel : Cert.quiescent_Kernel := fun m g _ =>
  (θ_run Cert.Kernel.defs _ _).mono (fun _ h => ⟨fun c => (h.1 c).2, h.2⟩)
    (Cert.KernelProof.run_main (F := Bits) m g)

/-- The kernel in exact arithmetic does the same. -/
theorem frame_kernelIdeal : Cert.quiescent_KernelIdeal := fun m g _ =>
  (θ_run Cert.KernelIdeal.defs _ _).mono (fun _ h => ⟨fun c => (h.1 c).2, h.2⟩)
    (Cert.KernelIdealProof.run_main (F := Ideal) m g)

/-- The reference is a straight line of host operations; it declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The devices' arguments, being the blocks of the reference's, are the blocks of two whole matrices. -/
theorem holds (m : (ℓ : Loc Cert.KernelIdeal.nD Cert.KernelIdeal.τ Cert.KernelIdeal.sig) → Buf (Elt Ideal) ℓ)
    (g : Dev Cert.KernelIdeal.nD → PrngReg)
    (X : FVec Ideal Cert.ReferenceIdeal.S4096x4096 .f32) (W : FVec Ideal Cert.ReferenceIdeal.S4096x2048 .f32)
    (h : ∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c X
      ∧ m ((c.tc : Thread Cert.KernelIdeal.nD Cert.KernelIdeal.τ).loc Cert.KernelIdeal.main_arg1) = Layout.block ⟨2, ![1024, 2048]⟩ ⟨2, ![4096, 2048]⟩ 0 4 c W) :
    Cert.KernelIdealProof.Holds m g (Cert.Value.at2 X) (Cert.Value.at2 W) where
  x_eq c i := (congrFun (h c).1 i).trans (Cert.Value.at2_apply X _ rfl (by
    show c.val * 1024 + (i 1).val = _; omega)).symm
  w_eq c i := by
    have hw : Cert.KernelIdealProof.wg (F := Ideal) m g c i = m ((c.tc : Thread Cert.KernelIdeal.nD Cert.KernelIdeal.τ).loc Cert.KernelIdeal.main_arg1) i := by
      show m ((c.tc : Thread Cert.KernelIdeal.nD Cert.KernelIdeal.τ).loc Cert.KernelIdeal.main_arg1) _ = _
      refine congrArg (m ((c.tc : Thread Cert.KernelIdeal.nD Cert.KernelIdeal.τ).loc Cert.KernelIdeal.main_arg1)) (funext fun a => ?_)
      match a with
      | ⟨0, _⟩ => exact Fin.ext ((Nat.zero_add _).trans (Nat.one_mul _))
      | ⟨1, _⟩ => exact Fin.ext ((Nat.zero_add _).trans (Nat.one_mul _))
    exact (hw.trans (congrFun (h c).2 i)).trans (Cert.Value.at2_apply W _ (by
      show c.val * 1024 + (i 0).val = _; omega) rfl).symm

/-- In exact arithmetic every device of the kernel ends with the reference's result: the entries before quantising are the
    same, so the largest of them and the step are, and so is what the quantiser makes of each. -/
theorem algebraic : Cert.algebraic_KernelIdeal_ReferenceIdeal := fun m g m' g' _ hag => by
  let X := m' (((0 : Dev Cert.ReferenceIdeal.nD).tc : Thread Cert.ReferenceIdeal.nD Cert.ReferenceIdeal.τ).loc Cert.ReferenceIdeal.main_arg0)
  let W := m' (((0 : Dev Cert.ReferenceIdeal.nD).tc : Thread Cert.ReferenceIdeal.nD Cert.ReferenceIdeal.τ).loc Cert.ReferenceIdeal.main_arg1)
  have H := holds m g X W hag
  have e : Cert.KernelIdealProof.outF (F := Ideal) m g = Cert.ReferenceIdeal.Value.ref X W := by
    obtain ⟨M, hM, hs⟩ := Cert.KernelIdealProof.sc_eq H
    obtain ⟨M', hM', hs'⟩ := Cert.ReferenceIdeal.Value.sref_eq X W
    have hMM : M = M' := eq_of_forall_ge_iff fun z => (hM z).trans (hM' z).symm
    funext i
    refine (Cert.KernelIdealProof.outF_eq H i).trans (.trans ?_ (Cert.ReferenceIdeal.Value.ref_eq X W i).symm)
    rw [hs, hs', hMM]
  refine ⟨Cert.ReferenceIdeal.Value.ref X W, ?_, ?_⟩
  · exact (θ_run Cert.KernelIdeal.defs _ _).mono (fun _ h c => ⟨(h.1 c).1.trans e, (h.1 c).2⟩)
      (Cert.KernelIdealProof.run_main (F := Ideal) m g)
  · exact (θ_run Cert.ReferenceIdeal.defs _ _).mono (fun _ h => h 0) (Cert.ReferenceIdeal.Value.run (F := Ideal) m' g')

/-- The claims together, after the facts that the printed programs state. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
